-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![4, 1024, 8, 128]⟩ ⟨4, ![4, 16384, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![4, 1024, 8, 128]⟩ ⟨4, ![4, 16384, 8, 128]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x1024x8x128 : S_.BroadcastsInDim S4x1024x8x128 (![] : Fin 0 → Fin S4x1024x8x128.rank)

variable [Facts]

def fn {F : FTy → Type} [FloatOps F] (main_arg0 : FVec F S4x256x1024 .bf16) (main_arg1 : FVec F S1024x1024 .bf16) (main_arg2 : FVec F S1024x1024 .bf16) (main_arg3 : FVec F S4x1024x8x128 .bf16) (main_arg4 : FVec F S4x1024x8x128 .bf16) : IVec S4x256x1024 1 × IVec S1024x1024 1 × IVec S4x1024x8x128 1 :=
  let main_v0 : FVec F S4x256x1024 .bf16 := Host.absf main_arg0
  let main_cst : FVec F S_ .bf16 := constant S_ .bf16 0x7F80#16
  let main_v1 : FVec F S4x256x1024 .bf16 := broadcastInDim S4x256x1024 ![] bcast_S_S4x256x1024 main_cst
  let main_v2 : IVec S4x256x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S4x1024x8x128 .bf16 := Host.absf main_arg3
  let main_cst_1 : FVec F S_ .bf16 := constant S_ .bf16 0x7F80#16
  let main_v7 : FVec F S4x1024x8x128 .bf16 := broadcastInDim S4x1024x8x128 ![] bcast_S_S4x1024x8x128 main_cst_1
  let main_v8 : IVec S4x1024x8x128 1 := cmpf .olt main_v6 main_v7
  (main_v2, main_v5, main_v8)
-- ==== Pre_finite_inputs_ReferenceIdeal.lean ====
abbrev S4x256x1024 : Shape := ⟨3, ![4, 256, 1024]⟩
abbrev S1024x1024 : Shape := ⟨2, ![1024, 1024]⟩
abbrev S4x16384x8x128 : Shape := ⟨4, ![4, 16384, 8, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x16384x8x128 : S_.BroadcastsInDim S4x16384x8x128 (![] : Fin 0 → Fin S4x16384x8x128.rank)

variable [Facts]

def fn {F : FTy → Type} [FloatOps F] (main_arg0 : FVec F S4x256x1024 .bf16) (main_arg1 : FVec F S1024x1024 .bf16) (main_arg2 : FVec F S1024x1024 .bf16) (main_arg3 : FVec F S4x16384x8x128 .bf16) (main_arg4 : FVec F S4x16384x8x128 .bf16) : IVec S4x256x1024 1 × IVec S1024x1024 1 × IVec S4x16384x8x128 1 :=
  let main_v0 : FVec F S4x256x1024 .bf16 := Host.absf main_arg0
  let main_cst : FVec F S_ .bf16 := constant S_ .bf16 0x7F80#16
  let main_v1 : FVec F S4x256x1024 .bf16 := broadcastInDim S4x256x1024 ![] bcast_S_S4x256x1024 main_cst
  let main_v2 : IVec S4x256x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S4x16384x8x128 .bf16 := Host.absf main_arg3
  let main_cst_1 : FVec F S_ .bf16 := constant S_ .bf16 0x7F80#16
  let main_v7 : FVec F S4x16384x8x128 .bf16 := broadcastInDim S4x16384x8x128 ![] bcast_S_S4x16384x8x128 main_cst_1
  let main_v8 : IVec S4x16384x8x128 1 := cmpf .olt main_v6 main_v7
  (main_v2, main_v5, main_v8)
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S1024x1152 : Shape := ⟨2, ![1024, 1152]⟩
abbrev S2x1024x1152 : Shape := ⟨3, ![2, 1024, 1152]⟩
abbrev S2 : Shape := ⟨1, ![2]⟩
abbrev S_ : Shape := ⟨0, ![]⟩
abbrev S256x128 : Shape := ⟨2, ![256, 128]⟩
abbrev S1x1024x1x128 : Shape := ⟨4, ![1, 1024, 1, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S256x120 : Shape := ⟨2, ![256, 120]⟩
abbrev S1x1024x1152 : Shape := ⟨3, ![1, 1024, 1152]⟩
abbrev S1 : Shape := ⟨1, ![1]⟩

abbrev nBuf : Space → Nat
  | .hbm => 6
  | .vmem => 10
  | .smem => 0
  | _ => 0

abbrev bufTy : (tb : Table) → Fin (tcTables nBuf tb) → BufTy
  | .hbm, ⟨0, _⟩ => ⟨S4x256x1024, .bf16⟩
  | .hbm, ⟨1, _⟩ => ⟨S1024x1024, .bf16⟩
  | .hbm, ⟨2, _⟩ => ⟨S1024x1024, .bf16⟩
  | .hbm, ⟨3, _⟩ => ⟨S4x1024x8x128, .bf16⟩
  | .hbm, ⟨4, _⟩ => ⟨S4x1024x8x128, .bf16⟩
  | .hbm, ⟨5, _⟩ => ⟨S4x256x1024, .f32⟩
  | .local _ .vmem, ⟨0, _⟩ => ⟨S4x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S4x1024x8x128, .bf16⟩
  | .local _ .vmem, ⟨4, _⟩ => ⟨S4x1024x8x128, .bf16⟩
  | .local _ .vmem, ⟨5, _⟩ => ⟨S4x256x1024, .f32⟩
  | .local _ .vmem, ⟨6, _⟩ => ⟨S1024x1024, .bf16⟩
  | .local _ .vmem, ⟨7, _⟩ => ⟨S1024x1152, .f32⟩
  | .local _ .vmem, ⟨8, _⟩ => ⟨S2x1024x1152, .bf16⟩
  | .local _ .vmem, ⟨9, _⟩ => ⟨S1024x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => true
  | ⟨1, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 2 10 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_559 : BitVec 32 := 1#32
  let v590 : BitVec 32 := Scalar.muli v7 c1_i32_559
  let v591 : BitVec 32 := Scalar.addi c0_i32_560 v590
  v591.toNat
def k0_dev4 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_592 : BitVec 32 := 1#32
  let v622 : BitVec 32 := Scalar.muli v5 c1_i32_592
  let v623 : BitVec 32 := Scalar.addi c0_i32_593 v622
  v623.toNat
def k0_dev5 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_600 : BitVec 32 := 1#32
  let v624 : BitVec 32 := Scalar.muli v7 c1_i32_600
  let v625 : BitVec 32 := Scalar.addi c0_i32_601 v624
  v625.toNat
def k0_dev6 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_633 : BitVec 32 := 1#32
  let v656 : BitVec 32 := Scalar.muli v5 c1_i32_633
  let v657 : BitVec 32 := Scalar.addi c0_i32_634 v656
  v657.toNat
def k0_dev7 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_641 : BitVec 32 := 1#32
  let v658 : BitVec 32 := Scalar.muli v7 c1_i32_641
  let v659 : BitVec 32 := Scalar.addi c0_i32_642 v658
  v659.toNat
def k0_dev8 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_674 : BitVec 32 := 1#32
  let v690 : BitVec 32 := Scalar.muli v5 c1_i32_674
  let v691 : BitVec 32 := Scalar.addi c0_i32_675 v690
  v691.toNat
def k0_dev9 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_682 : BitVec 32 := 1#32
  let v692 : BitVec 32 := Scalar.muli v7 c1_i32_682
  let v693 : BitVec 32 := Scalar.addi c0_i32_683 v692
  v693.toNat
def k0_dev10 (d0 : Dev nD) : Nat :=
  let c0_i32_716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_715 : BitVec 32 := 1#32
  let v724 : BitVec 32 := Scalar.muli v5 c1_i32_715
  let v725 : BitVec 32 := Scalar.addi c0_i32_716 v724
  v725.toNat
def k0_dev11 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_723 : BitVec 32 := 1#32
  let v726 : BitVec 32 := Scalar.muli v7 c1_i32_723
  let v727 : BitVec 32 := Scalar.addi c0_i32_724 v726
  v727.toNat
def k0_dev12 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_756 : BitVec 32 := 1#32
  let v758 : BitVec 32 := Scalar.muli v5 c1_i32_756
  let v759 : BitVec 32 := Scalar.addi c0_i32_757 v758
  v759.toNat
def k0_dev13 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_764 : BitVec 32 := 1#32
  let v760 : BitVec 32 := Scalar.muli v7 c1_i32_764
  let v761 : BitVec 32 := Scalar.addi c0_i32_765 v760
  v761.toNat
def k0_dev14 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_797 : BitVec 32 := 1#32
  let v792 : BitVec 32 := Scalar.muli v5 c1_i32_797
  let v793 : BitVec 32 := Scalar.addi c0_i32_798 v792
  v793.toNat
def k0_dev15 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_805 : BitVec 32 := 1#32
  let v794 : BitVec 32 := Scalar.muli v7 c1_i32_805
  let v795 : BitVec 32 := Scalar.addi c0_i32_806 v794
  v795.toNat
def k0_dev16 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_838 : BitVec 32 := 1#32
  let v826 : BitVec 32 := Scalar.muli v5 c1_i32_838
  let v827 : BitVec 32 := Scalar.addi c0_i32_839 v826
  v827.toNat
def k0_dev17 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_846 : BitVec 32 := 1#32
  let v828 : BitVec 32 := Scalar.muli v7 c1_i32_846
  let v829 : BitVec 32 := Scalar.addi c0_i32_847 v828
  v829.toNat
def k0_dev18 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_879 : BitVec 32 := 1#32
  let v860 : BitVec 32 := Scalar.muli v5 c1_i32_879
  let v861 : BitVec 32 := Scalar.addi c0_i32_880 v860
  v861.toNat
def k0_dev19 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_887 : BitVec 32 := 1#32
  let v862 : BitVec 32 := Scalar.muli v7 c1_i32_887
  let v863 : BitVec 32 := Scalar.addi c0_i32_888 v862
  v863.toNat
def k0_dev20 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_920 : BitVec 32 := 1#32
  let v894 : BitVec 32 := Scalar.muli v5 c1_i32_920
  let v895 : BitVec 32 := Scalar.addi c0_i32_921 v894
  v895.toNat
def k0_dev21 (d0 : Dev nD) : Nat :=
  let c0_i32_929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_928 : BitVec 32 := 1#32
  let v896 : BitVec 32 := Scalar.muli v7 c1_i32_928
  let v897 : BitVec 32 := Scalar.addi c0_i32_929 v896
  v897.toNat
def k0_dev22 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_961 : BitVec 32 := 1#32
  let v928 : BitVec 32 := Scalar.muli v5 c1_i32_961
  let v929 : BitVec 32 := Scalar.addi c0_i32_962 v928
  v929.toNat
def k0_dev23 (d0 : Dev nD) : Nat :=
  let c0_i32_970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_969 : BitVec 32 := 1#32
  let v930 : BitVec 32 := Scalar.muli v7 c1_i32_969
  let v931 : BitVec 32 := Scalar.addi c0_i32_970 v930
  v931.toNat
def k0_dev24 (d0 : Dev nD) : Nat :=
  let c0_i32_1003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1002 : BitVec 32 := 1#32
  let v962 : BitVec 32 := Scalar.muli v5 c1_i32_1002
  let v963 : BitVec 32 := Scalar.addi c0_i32_1003 v962
  v963.toNat
def k0_dev25 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1010 : BitVec 32 := 1#32
  let v964 : BitVec 32 := Scalar.muli v7 c1_i32_1010
  let v965 : BitVec 32 := Scalar.addi c0_i32_1011 v964
  v965.toNat
def k0_dev26 (d0 : Dev nD) : Nat :=
  let c0_i32_1044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1043 : BitVec 32 := 1#32
  let v996 : BitVec 32 := Scalar.muli v5 c1_i32_1043
  let v997 : BitVec 32 := Scalar.addi c0_i32_1044 v996
  v997.toNat
def k0_dev27 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1051 : BitVec 32 := 1#32
  let v998 : BitVec 32 := Scalar.muli v7 c1_i32_1051
  let v999 : BitVec 32 := Scalar.addi c0_i32_1052 v998
  v999.toNat
def k0_dev28 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1084 : BitVec 32 := 1#32
  let v1030 : BitVec 32 := Scalar.muli v5 c1_i32_1084
  let v1031 : BitVec 32 := Scalar.addi c0_i32_1085 v1030
  v1031.toNat
def k0_dev29 (d0 : Dev nD) : Nat :=
  let c0_i32_1093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1092 : BitVec 32 := 1#32
  let v1032 : BitVec 32 := Scalar.muli v7 c1_i32_1092
  let v1033 : BitVec 32 := Scalar.addi c0_i32_1093 v1032
  v1033.toNat
def k0_dev30 (d0 : Dev nD) : Nat :=
  let c0_i32_1126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1125 : BitVec 32 := 1#32
  let v1064 : BitVec 32 := Scalar.muli v5 c1_i32_1125
  let v1065 : BitVec 32 := Scalar.addi c0_i32_1126 v1064
  v1065.toNat
def k0_dev31 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1133 : BitVec 32 := 1#32
  let v1066 : BitVec 32 := Scalar.muli v7 c1_i32_1133
  let v1067 : BitVec 32 := Scalar.addi c0_i32_1134 v1066
  v1067.toNat
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x1024 : Shape := ⟨2, ![1024, 1024]⟩
abbrev S4x16384x8x128 : Shape := ⟨4, ![4, 16384, 8, 128]⟩
abbrev S4x256x8x128 : Shape := ⟨4, ![4, 256, 8, 128]⟩
abbrev S4x8x256x16384 : Shape := ⟨4, ![4, 8, 256, 16384]⟩
abbrev S_ : Shape := ⟨0, ![]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S4x256x8x1 : Shape := ⟨4, ![4, 256, 8, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1024x1024, .bf16⟩
  | .hbm, ⟨2, _⟩ => ⟨S1024x1024, .bf16⟩
  | .hbm, ⟨3, _⟩ => ⟨S4x16384x8x128, .bf16⟩
  | .hbm, ⟨4, _⟩ => ⟨S4x16384x8x128, .bf16⟩
  | .hbm, ⟨5, _⟩ => ⟨S4x256x1024, .f32⟩
  | .hbm, ⟨6, _⟩ => ⟨S1024x1024, .f32⟩
  | .hbm, ⟨7, _⟩ => ⟨S1024x1024, .f32⟩
  | .hbm, ⟨8, _⟩ => ⟨S4x16384x8x128, .f32⟩
  | .hbm, ⟨9, _⟩ => ⟨S4x16384x8x128, .f32⟩
  | .hbm, ⟨10, _⟩ => ⟨S4x256x1024, .f32⟩
  | .hbm, ⟨11, _⟩ => ⟨S4x256x8x128, .f32⟩
  | .hbm, ⟨12, _⟩ => ⟨S4x8x256x16384, .f32⟩
  | .hbm, ⟨13, _⟩ => ⟨S_, .f32⟩
  | .hbm, ⟨14, _⟩ => ⟨S4x8x256x16384, .f32⟩
  | .hbm, ⟨15, _⟩ => ⟨S4x8x256x16384, .f32⟩
  | .hbm, ⟨16, _⟩ => ⟨S_, .f32⟩
  | .hbm, ⟨17, _⟩ => ⟨S4x8x256, .f32⟩
  | .hbm, ⟨18, _⟩ => ⟨S4x8x256x1, .f32⟩
  | .hbm, ⟨19, _⟩ => ⟨S4x8x256x16384, .f32⟩
  | .hbm, ⟨20, _⟩ => ⟨S4x8x256x16384, .f32⟩
  | .hbm, ⟨21, _⟩ => ⟨S4x8x256x16384, .f32⟩
  | .hbm, ⟨22, _⟩ => ⟨S_, .f32⟩
  | .hbm, ⟨23, _⟩ => ⟨S4x8x256, .f32⟩
  | .hbm, ⟨24, _⟩ => ⟨S4x8x256x1, .f32⟩
  | .hbm, ⟨25, _⟩ => ⟨S4x8x128x256, .f32⟩
  | .hbm, ⟨26, _⟩ => ⟨S4x256x8x128, .f32⟩
  | .hbm, ⟨27, _⟩ => ⟨S4x256x8x1, .f32⟩
  | .hbm, ⟨28, _⟩ => ⟨S4x256x8x128, .f32⟩
  | .hbm, ⟨29, _⟩ => ⟨S4x256x8x128, .f32⟩
  | .hbm, ⟨30, _⟩ => ⟨S4x256x1024, .f32⟩
  | .hbm, ⟨31, _⟩ => ⟨S4x256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Common.lean ====
/-
# The ring attention kernel: devices, buffers, contents and the protocol

Sixteen devices on a ring. Every device computes the attention sums of its own keys and values, then a packet
with those sums travels fifteen hops round the ring; at each hop a device adds the packet that has just arrived.
This file fixes the ring, the two communication slots, what every buffer holds at each stage, and the schedule of
the six semaphores of a device (barrier, credit, two send, two receive).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.SiteBlocks
public import Idealize.ShloMosaic.Lib.Pipeline.ValueKit.Geometry
public import Idealize.ShloMosaic.Lib.Pointwise.Index
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging copy and the ring's copy -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The ring -/

set_option backward.proofsInPublic true in
/-- The device to which packets are sent. -/
def nxt (c : Dev nD) : Dev nD := ⟨(c.val + 1) % 16, Nat.mod_lt _ (by decide)⟩
set_option backward.proofsInPublic true in
/-- The device from which packets arrive. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

/-- The device `h` places back on the ring: the origin of the packet a device holds after `h` hops. -/
def back : ℕ → Dev nD → Dev nD
  | 0, c => c
  | h + 1, c => back h (prv c)

theorem back_nxt (h : ℕ) (c : Dev nD) : back (h + 1) (nxt c) = back h c := by
  show back h (prv (nxt c)) = _; rw [prv_nxt]

/-- The device `h` places back, as a number. -/
theorem back_val (h : ℕ) (c : Dev nD) (hh : h ≤ 16) : (back h c).val = (c.val + 16 - h) % 16 := by
  have h16 : c.val < 16 := c.isLt
  induction h generalizing c with
  | zero => show c.val = _; omega
  | succ k ih =>
    show (back k (prv c)).val = _
    rw [ih (prv c) (by omega) (prv c).isLt]
    show ((c.val + 15) % 16 + 16 - k) % 16 = _
    omega

/-! ## Slots and semaphores -/

set_option backward.proofsInPublic true in
/-- The communication slot used at hop `h`: its parity. -/
def par (h : ℕ) : Fin 2 := ⟨h % 2, Nat.mod_lt _ (by decide)⟩

theorem par_add_two (h : ℕ) : par (h + 2) = par h := Fin.ext (by show (h + 2) % 2 = h % 2; omega)

theorem inb_slot (p : Fin 2) : ∀ a, ![p.val, 0, 0] a + S1x1024x1152.size a ≤ S2x1024x1152.size a := by revert p; decide
theorem inb_sem (p : Fin 2) : ∀ a, ![p.val] a + S1.size a ≤ S2.size a := by revert p; decide

/-- The rectangle of slot `p` in the communication buffer. -/
abbrev slotR (p : Fin 2) : Rect S2x1024x1152 := Rect.unit (s := S2x1024x1152) ![p.val, 0, 0] S1x1024x1152.size (inb_slot p)

abbrev commM : Memref sig .tc .vmem S2x1024x1152 .bf16 := Memref.whole cc0_scratch2

/-- Slot `p` as the transfers name it. -/
abbrev slotM (p : Fin 2) : Memref sig .tc .vmem S1024x1152 .bf16 :=
  (commM.slice (slotR p) (fun _ => rfl)).squeeze S1024x1152 squeezes_S1x1024x1152_S1024x1152

/-- The send and receive semaphores by slot, the credit semaphore and the runtime's barrier semaphore. -/
abbrev sS (p : Fin 2) : DmaSem sig := ((cc0_scratch4.slice (Rect.unit (s := S2) ![p.val] S1.size (inb_sem p))).squeeze S_ squeezes_S1_S_).sem
abbrev rS (p : Fin 2) : DmaSem sig := ((cc0_scratch5.slice (Rect.unit (s := S2) ![p.val] S1.size (inb_sem p))).squeeze S_ squeezes_S1_S_).sem
abbrev crS : Sem sig := cc0_scratch6.sem
abbrev barS : Sem sig := (SemArray.scalar (sig.barrier 0 rfl) : Sems sig S_).sem

/-- A device's cells: barrier, credit, the send cell and the receive cell of hop `h`. -/
abbrev barCell (c : Dev nD) : GSem nD τ sig := ((c : Thread nD τ), .reg barS)
abbrev crCell (c : Dev nD) : GSem nD τ sig := ((c : Thread nD τ), .reg crS)
abbrev sendCell (h : ℕ) (c : Dev nD) : GSem nD τ sig := ((c : Thread nD τ), .dma (sS (par h)))
abbrev rcvCell (h : ℕ) (c : Dev nD) : GSem nD τ sig := ((c : Thread nD τ), .dma (rS (par (h + 1))))

/-- The kernel's own five semaphores, and all six of the protocol. -/
abbrev osem : Fin 5 → SemLoc sig := fun | 0 => .reg crS | 1 => .dma (sS 0) | 2 => .dma (sS 1) | 3 => .dma (rS 0) | 4 => .dma (rS 1)
abbrev csem : Fin 6 → SemLoc sig := fun | 0 => .reg barS | 1 => .reg crS | 2 => .dma (sS 0) | 3 => .dma (sS 1) | 4 => .dma (rS 0) | 5 => .dma (rS 1)
abbrev kcell (ck : Dev nD × Fin 6) : GSem nD τ sig := ((ck.1 : Thread nD τ), csem ck.2)

/-- The index of a semaphore among the six; 6 for any other. -/
def kindOf (s : SemLoc sig) : ℕ :=
  if s = .reg barS then 0 else if s = .reg crS then 1 else if s = .dma (sS 0) then 2 else if s = .dma (sS 1) then 3
  else if s = .dma (rS 0) then 4 else if s = .dma (rS 1) then 5 else 6

theorem kindOf_csem : ∀ k : Fin 6, kindOf (csem k) = k.val := by decide

theorem kind_bar : kindOf (.reg barS) = 0 := by decide
theorem kind_cr : kindOf (.reg crS) = 1 := by decide
theorem kind_s : ∀ p : Fin 2, kindOf (.dma (sS p)) = 2 + p.val := by decide
theorem kind_r : ∀ p : Fin 2, kindOf (.dma (rS p)) = 4 + p.val := by decide

/-- The amount one transfer of a slot credits. -/
abbrev N : ℕ := (slotM 0).view.dmaCredit
theorem N_pos : 0 < N := View.dmaCredit_pos _ (by decide)
theorem N_slot (p : Fin 2) : (slotM p).view.dmaCredit = N := rfl

/-! ## What the slots hold -/

/-- The elements of slot `p`. -/
abbrev slotSet (p : Fin 2) : Finset (S2x1024x1152).Idx := (slotM p).view.set

/-- The communication buffer holding packet `X` in both slots: what a slot restricted to its elements holds. -/
def commBuf (X : S1x1024x1152.Idx → Elt F .bf16) : (cc0_scratch2 : Ref sig .tc).ty.Contents (Elt F) :=
  fun i => X (ix3 (0 : Fin 1) (i 1) (i 2))

/-- Slot `p` of device `c`, holding `f` there. -/
def slotPts (c : Dev nD) (p : Fin 2) (f : Buf (Elt F) ((c : Thread nD τ).loc cc0_scratch2)) : sProp 𝕄 :=
  ((c : Thread nD τ).loc cc0_scratch2) ↦[slotSet p]{fullShare} f

/-- Slot `p` of device `c`, holding packet `X`. -/
def slotX (c : Dev nD) (p : Fin 2) (X : S1x1024x1152.Idx → Elt F .bf16) : sProp 𝕄 := slotPts c p (commBuf X)

/-- Slot `p` of device `c`, holding anything. -/
def slotAny (c : Dev nD) (p : Fin 2) : sProp 𝕄 := iprop(∃ f, slotPts c p f)

instance slotPts_storable (c : Dev nD) (p : Fin 2) (f) : BI.Storable (upEmb : UEmb _ 𝕄) (slotPts (F := F) c p f) := by unfold slotPts; infer_instance
instance slotX_storable (c : Dev nD) (p : Fin 2) (X) : BI.Storable (upEmb : UEmb _ 𝕄) (slotX (F := F) c p X) := by unfold slotX; infer_instance
instance slotAny_storable (c : Dev nD) (p : Fin 2) : BI.Storable (upEmb : UEmb _ 𝕄) (slotAny (F := F) c p) := by unfold slotAny; infer_instance

theorem slotX_any (c : Dev nD) (p : Fin 2) (X : S1x1024x1152.Idx → Elt F .bf16) : (slotX c p X : sProp 𝕄) ⊢ slotAny c p := by
  unfold slotX slotAny; iintro H; iexists _; iexact H

/-- The transfers' view of a slot has the elements of the slot's rectangle. -/
theorem slotSet_eq (p : Fin 2) : slotSet p = (slotR p).set := by
  show ((View.whole cc0_scratch2).slice (slotR p) |>.reshape _ _).set = _
  rw [View.set_reshape, View.set_slice_whole]

theorem mem_slotSet (p : Fin 2) (i : (S2x1024x1152).Idx) : i ∈ slotSet p ↔ (i 0).val = p.val := by
  rw [slotSet_eq, Rect.mem_set_unit]
  have h1 : (i 1).val < 1024 := (i 1).isLt
  have h2 : (i 2).val < 1152 := (i 2).isLt
  constructor
  · intro h
    have h0 := h 0
    change p.val ≤ (i 0).val ∧ (i 0).val < p.val + 1 at h0
    omega
  · intro h a
    match a with
    | ⟨0, _⟩ => show p.val ≤ (i 0).val ∧ (i 0).val < p.val + 1; omega
    | ⟨1, _⟩ => show 0 ≤ (i 1).val ∧ (i 1).val < 0 + 1024; omega
    | ⟨2, _⟩ => show 0 ≤ (i 2).val ∧ (i 2).val < 0 + 1152; omega

/-- The two slots have no element in common and make up the buffer. -/
theorem slots_disjoint (p : Fin 2) : Disjoint (slotSet p) (slotSet (p + 1)) := by
  rw [Finset.disjoint_left]
  intro i h h'
  rw [mem_slotSet] at h h'
  revert h h'; generalize (i 0).val = v; intro h h'
  revert p; intro p h h'; fin_cases p <;> simp_all

theorem slots_univ : slotSet 0 ∪ slotSet 1 = Finset.univ := by
  ext i
  rw [Finset.mem_union, mem_slotSet, mem_slotSet]
  have h0 : (i 0).val < 2 := (i 0).isLt
  constructor
  · intro _; exact Finset.mem_univ _
  · intro _
    show (i 0).val = 0 ∨ (i 0).val = 1
    omega

/-- Where an index of slot `p`'s rectangle lies in the buffer. -/
theorem slot_emb (p : Fin 2) (x : S1x1024x1152.Idx) (a : Fin 3) :
    ((((View.whole cc0_scratch2).slice (slotR p)).emb x a : Fin _) : ℕ) = ![p.val, 0, 0] a + (x a).val :=
  ValueKit.view_emb_slice_whole_unit_val cc0_scratch2 _ _ (inb_slot p) x a

/-- Loading slot `p` when it holds packet `X` yields `X`. -/
theorem load_slot (p : Fin 2) (X : S1x1024x1152.Idx → Elt F .bf16) :
    commM.view.readAt (Elt F) (slotR p).toLoadRect (commBuf X) = X := by
  rw [View.readAt_rect]
  funext x
  show X _ = X x
  refine congrArg X (funext fun a => Fin.ext ?_)
  have e1 := slot_emb p x 1
  have e2 := slot_emb p x 2
  have h0 : (x 0).val < 1 := (x 0).isLt
  match a with
  | ⟨0, _⟩ => show 0 = (x 0).val; omega
  | ⟨1, _⟩ => exact e1.trans (Nat.zero_add _)
  | ⟨2, _⟩ => exact e2.trans (Nat.zero_add _)

/-- Storing `X` into slot `p` leaves the slot holding packet `X`. -/
theorem store_slot (p : Fin 2) (f : (cc0_scratch2 : Ref sig .tc).ty.Contents (Elt F)) (X : S1x1024x1152.Idx → Elt F .bf16) :
    ∀ i ∈ slotSet p, ((View.whole cc0_scratch2).slice (slotR p)).write (Elt F) f X Finset.univ i = commBuf X i := by
  intro i hi
  have hset : slotSet p = ((View.whole cc0_scratch2).slice (slotR p)).set := by rw [slotSet_eq, View.set_slice_whole]
  rw [hset] at hi
  obtain ⟨x, rfl⟩ : ∃ x, ((View.whole cc0_scratch2).slice (slotR p)).emb x = i := by
    rw [View.set, Finset.mem_map] at hi
    obtain ⟨x, -, h⟩ := hi; exact ⟨x, h⟩
  rw [View.write_emb_of_mem _ _ (Finset.mem_univ x)]
  have h := congrFun (load_slot (F := F) p X) x
  exact h.symm

/-- Sending slot `p` holding packet `X` into slot `q` leaves slot `q` holding packet `X`. -/
theorem send_slot (p q : Fin 2) (f : (cc0_scratch2 : Ref sig .tc).ty.Contents (Elt F)) (X : S1x1024x1152.Idx → Elt F .bf16) :
    ∀ i ∈ slotSet q, (slotM q).view.write (Elt F) f ((slotM p).view.read (Elt F) (commBuf X)) Finset.univ i = commBuf X i := by
  intro i hi
  obtain ⟨x, rfl⟩ : ∃ x, (slotM q).view.emb x = i := by
    rw [slotSet, View.set, Finset.mem_map] at hi
    obtain ⟨x, -, h⟩ := hi; exact ⟨x, h⟩
  rw [View.write_emb_of_mem _ _ (Finset.mem_univ x)]
  show commBuf X ((slotM p).view.emb x) = commBuf X ((slotM q).view.emb x)
  have hp := congrFun (load_slot (F := F) p X) (Shape.reshapeEquiv (s := S1x1024x1152) (s' := S1024x1152) (by decide) x)
  have hq := congrFun (load_slot (F := F) q X) (Shape.reshapeEquiv (s := S1x1024x1152) (s' := S1024x1152) (by decide) x)
  exact hp.trans hq.symm

/-! ## Contents: what the kernel computes, from the arguments of the launch -/

/-- Device `c`'s blocks of the five arguments, as staged. -/
def xA (c : Dev nD) : (cc0_stg0_0 : Ref sig .tc).ty.Contents (Elt F) := (win0_0.blk (0 : Fin 1)).view.read (Elt F) ((s₀ m ρ).mem ((c : Thread nD τ).loc main_arg0))
def wqA (c : Dev nD) : (cc0_stg1_0 : Ref sig .tc).ty.Contents (Elt F) := (win0_1.blk (0 : Fin 1)).view.read (Elt F) ((s₀ m ρ).mem ((c : Thread nD τ).loc main_arg1))
def woA (c : Dev nD) : (cc0_stg2_0 : Ref sig .tc).ty.Contents (Elt F) := (win0_2.blk (0 : Fin 1)).view.read (Elt F) ((s₀ m ρ).mem ((c : Thread nD τ).loc main_arg2))
def kA (c : Dev nD) : (cc0_stg3_0 : Ref sig .tc).ty.Contents (Elt F) := (win0_3.blk (0 : Fin 1)).view.read (Elt F) ((s₀ m ρ).mem ((c : Thread nD τ).loc main_arg3))
def vA (c : Dev nD) : (cc0_stg4_0 : Ref sig .tc).ty.Contents (Elt F) := (win0_4.blk (0 : Fin 1)).view.read (Elt F) ((s₀ m ρ).mem ((c : Thread nD τ).loc main_arg4))

/-- The scaled queries. -/
def qA (c : Dev nD) : S1024x1024.Idx → Elt F .bf16 := k0_pay2 (xA m ρ c) (wqA m ρ c)

set_option backward.proofsInPublic true in
/-- Row `r` of batch `b`, and column `x` of head `h`, in the flat arrays. -/
def rowOf (b : Fin 4) (r : Fin 256) : Fin 1024 := ⟨256 * b.val + r.val, by omega⟩
set_option backward.proofsInPublic true in
def colOf (h : Fin 8) (x : Fin 128) : Fin 1024 := ⟨128 * h.val + x.val, by omega⟩

/-- The queries, keys and values of batch `b`, head `h`. -/
def qB (c : Dev nD) (b : Fin 4) (h : Fin 8) : S256x128.Idx → Elt F .bf16 := fun j => qA m ρ c (ix2 (rowOf b (j 0)) (colOf h (j 1)))
def kB (c : Dev nD) (b : Fin 4) (h : Fin 8) : S1x1024x1x128.Idx → Elt F .bf16 := fun j => kA m ρ c (ix4 b (j 1) h (j 3))
def vB (c : Dev nD) (b : Fin 4) (h : Fin 8) : S1x1024x1x128.Idx → Elt F .bf16 := fun j => vA m ρ c (ix4 b (j 1) h (j 3))

/-- The weighted values and the weights' sum of batch `b`, head `h`, over the device's own keys. -/
def oB (c : Dev nD) (b : Fin 4) (h : Fin 8) : S256x128.Idx → Elt F .f32 := k0_pay4 (qB m ρ c b h) (kB m ρ c b h) (vB m ρ c b h)
def lB (c : Dev nD) (b : Fin 4) (h : Fin 8) : S256x1.Idx → Elt F .f32 := k0_pay5 (qB m ρ c b h) (kB m ρ c b h)

set_option backward.proofsInPublic true in
def dv4 (r : Fin 1024) : Fin 4 := ⟨r.val / 256, by omega⟩
set_option backward.proofsInPublic true in
def md256 (r : Fin 1024) : Fin 256 := ⟨r.val % 256, by omega⟩
set_option backward.proofsInPublic true in
def dv8 (x : Fin 1152) : Fin 8 := ⟨x.val / 128 % 8, by omega⟩
set_option backward.proofsInPublic true in
def md128 (x : Fin 1152) : Fin 128 := ⟨x.val % 128, by omega⟩
set_option backward.proofsInPublic true in
def hd8 (x : Fin 1152) : Fin 8 := ⟨x.val % 8, by omega⟩
set_option backward.proofsInPublic true in
def pad120 (x : Fin 1152) : Fin 120 := ⟨(x.val - 1032) % 120, by omega⟩

/-- A device's own sums: weighted values in the first 1024 columns, the eight sums of weights after them, then padding. -/
def accOwn (c : Dev nD) : S1024x1152.Idx → Elt F .f32 := fun i =>
  if (i 1).val < 1024 then oB m ρ c (dv4 (i 0)) (dv8 (i 1)) (ix2 (md256 (i 0)) (md128 (i 1)))
  else if (i 1).val < 1032 then lB m ρ c (dv4 (i 0)) (hd8 (i 1)) (ix2 (md256 (i 0)) 0)
  else k0_pay122 (F := F) (ix2 (md256 (i 0)) (pad120 (i 1)))

/-- The packet that leaves device `c`. -/
def pkt (c : Dev nD) : S1x1024x1152.Idx → Elt F .bf16 := k0_pay123 (accOwn m ρ c)

/-- The accumulator of device `c` after `h` hops: its own sums and the packets of the `h` devices before it. -/
def accAt (c : Dev nD) : ℕ → (S1024x1152.Idx → Elt F .f32)
  | 0 => accOwn m ρ c
  | h + 1 => k0_pay124 (accAt c h) (pkt m ρ (back (h + 1) c))

/-- The total after all fifteen hops. -/
def tot (c : Dev nD) : S1024x1152.Idx → Elt F .f32 := accAt m ρ c 15

set_option backward.proofsInPublic true in
/-- The columns of head `h` in an accumulator: the weighted values, and the sum of weights. -/
def colAcc (h : Fin 8) (x : Fin 128) : Fin 1152 := ⟨128 * h.val + x.val, by omega⟩
set_option backward.proofsInPublic true in
def lcolAcc (h : Fin 8) : Fin 1152 := ⟨1024 + h.val, by omega⟩

def totO (c : Dev nD) (b : Fin 4) (h : Fin 8) : S256x128.Idx → Elt F .f32 := fun j => tot m ρ c (ix2 (rowOf b (j 0)) (colAcc h (j 1)))
def totL (c : Dev nD) (b : Fin 4) (h : Fin 8) : S256x1.Idx → Elt F .f32 := fun j => tot m ρ c (ix2 (rowOf b (j 0)) (lcolAcc h))

set_option backward.proofsInPublic true in
def dvh (x : Fin 1024) : Fin 8 := ⟨x.val / 128, by omega⟩
set_option backward.proofsInPublic true in
def mdh (x : Fin 1024) : Fin 128 := ⟨x.val % 128, by omega⟩

/-- The normalised attention output. -/
def attnA (c : Dev nD) : S1024x1024.Idx → Elt F .bf16 := fun i =>
  k0_pay141 (totL m ρ c (dv4 (i 0)) (dvh (i 1))) (totO m ρ c (dv4 (i 0)) (dvh (i 1))) (ix2 (md256 (i 0)) (mdh (i 1)))

/-- The kernel's result on device `c`. -/
def outA (c : Dev nD) : (cc0_stg5_0 : Ref sig .tc).ty.Contents (Elt F) := k0_pay1 (attnA m ρ c) (woA m ρ c)

/-! ## The schedule of the semaphores -/

/-- The right neighbour's barrier signal hands over its slot 1 (the target of hop 0). -/
def barPay (c : Dev nD) : sProp 𝕄 := iprop(slotAny (nxt c) (par 1) ∗ reached ER (rcvCell 0 (nxt c)) 0)
/-- The right neighbour's credit of hop `h` hands over the slot it has just finished sending from. -/
def crPay (h : ℕ) (c : Dev nD) : sProp 𝕄 := iprop(slotAny (nxt c) (par h) ∗ reached ER (rcvCell (h + 1) (nxt c)) ((h + 1) / 2))
/-- The end of hop `h`'s send hands the source slot back. -/
def sendPay (h : ℕ) (c : Dev nD) : sProp 𝕄 := slotX c (par h) (pkt m ρ (back h c))
/-- The arrival of hop `h` hands over the slot holding the packet, and that the sender waits for credit `h`. -/
def rcvPay (h : ℕ) (c : Dev nD) : sProp 𝕄 := iprop(slotX c (par (h + 1)) (pkt m ρ (back (h + 1) c)) ∗ reached ER (crCell (prv c)) h)

/-- How many rounds a semaphore of each kind has. -/
def rounds (k : ℕ) : ℕ := if k = 0 then 1 else if k = 1 then 14 else if k = 2 ∨ k = 5 then 8 else if k = 3 ∨ k = 4 then 7 else 0

/-- The schedule: the barrier has one round with two duties of a unit; the credit fourteen rounds of a unit; a send or
    receive semaphore one round for every hop that uses it, of one slot's credit. -/
def Rd : Rounds.Schedule (GSem nD τ sig) Bool 𝕄 where
  duties g r := if r < rounds (kindOf g.2) then (if kindOf g.2 = 0 then Finset.univ else {false}) else ∅
  unitless _ := False
  amount g _ _ := if kindOf g.2 < 2 then 1 else N
  payload g r d :=
    if kindOf g.2 = 0 then (if d then barPay g.1.1 else iprop(emp))
    else if kindOf g.2 = 1 then crPay r g.1.1
    else if kindOf g.2 = 2 then sendPay m ρ (2 * r) g.1.1
    else if kindOf g.2 = 3 then sendPay m ρ (2 * r + 1) g.1.1
    else if kindOf g.2 = 4 then rcvPay m ρ (2 * r + 1) g.1.1
    else if kindOf g.2 = 5 then rcvPay m ρ (2 * r) g.1.1
    else iprop(emp)
  amount_pos g _ _ _ := by
    by_cases h : kindOf g.2 < 2
    · rw [if_pos h]; exact Nat.one_pos
    · rw [if_neg h]; exact N_pos

instance Rd_payload_storable (g : GSem nD τ sig) (r : ℕ) (d : Bool) :
    BI.Storable (upEmb : UEmb _ 𝕄) ((Rd (F := F) m ρ).payload g r d) := by
  dsimp only [Rd]
  unfold barPay crPay sendPay rcvPay
  (repeat' split) <;> infer_instance

section Sched
variable (c : Dev nD)

theorem duties_of (g : GSem nD τ sig) (r k : ℕ) (hk : kindOf g.2 = k) :
    (Rd (F := F) m ρ).duties g r = if r < rounds k then (if k = 0 then Finset.univ else {false}) else ∅ := by
  subst hk; rfl

theorem kind_send (h : ℕ) : kindOf (.dma (sS (par h))) = 2 + h % 2 := kind_s (par h)
theorem kind_rcv (h : ℕ) : kindOf (.dma (rS (par (h + 1)))) = 4 + (h + 1) % 2 := kind_r (par (h + 1))

theorem duties_bar : (Rd (F := F) m ρ).duties (barCell c) 0 = Finset.univ := by
  rw [duties_of m ρ _ 0 0 kind_bar]; rfl
theorem duties_cr (r : ℕ) (hr : r < 14) : (Rd (F := F) m ρ).duties (crCell c) r = {false} := by
  rw [duties_of m ρ _ r 1 kind_cr]; exact if_pos hr
theorem duties_send (h : ℕ) (hh : h < 15) : (Rd (F := F) m ρ).duties (sendCell h c) (h / 2) = {false} := by
  have hlt : h / 2 < rounds (2 + h % 2) := by
    unfold rounds
    rcases (by omega : h % 2 = 0 ∨ h % 2 = 1) with e | e <;> simp [e] <;> omega
  rw [duties_of m ρ _ _ _ (kind_send h), if_pos hlt, if_neg (by omega)]
theorem duties_rcv (h : ℕ) (hh : h < 15) : (Rd (F := F) m ρ).duties (rcvCell h c) (h / 2) = {false} := by
  have hlt : h / 2 < rounds (4 + (h + 1) % 2) := by
    unfold rounds
    rcases (by omega : (h + 1) % 2 = 0 ∨ (h + 1) % 2 = 1) with e | e <;> simp [e] <;> omega
  rw [duties_of m ρ _ _ _ (kind_rcv h), if_pos hlt, if_neg (by omega)]

theorem duties_late (g : GSem nD τ sig) (k R : ℕ) (hk : kindOf g.2 = k) (hR : rounds k ≤ R) : ∀ r, R ≤ r → (Rd (F := F) m ρ).duties g r = ∅ :=
  fun r hr => by rw [duties_of m ρ g r k hk]; exact if_neg (by omega)

theorem amount_of (g : GSem nD τ sig) (r k : ℕ) (d : Bool) (hk : kindOf g.2 = k) :
    (Rd (F := F) m ρ).amount g r d = if k < 2 then 1 else N := by subst hk; rfl
theorem amount_bar (r : ℕ) (d : Bool) : (Rd (F := F) m ρ).amount (barCell c) r d = 1 := (amount_of m ρ _ r 0 d kind_bar).trans (if_pos (by decide))
theorem amount_cr (r : ℕ) (d : Bool) : (Rd (F := F) m ρ).amount (crCell c) r d = 1 := (amount_of m ρ _ r 1 d kind_cr).trans (if_pos (by decide))
theorem amount_send (h r : ℕ) (d : Bool) : (Rd (F := F) m ρ).amount (sendCell h c) r d = N := (amount_of m ρ _ r _ d (kind_send h)).trans (if_neg (by omega))
theorem amount_rcv (h r : ℕ) (d : Bool) : (Rd (F := F) m ρ).amount (rcvCell h c) r d = N := (amount_of m ρ _ r _ d (kind_rcv h)).trans (if_neg (by omega))

theorem expect_bar : (Rd (F := F) m ρ).expect (barCell c) 0 = 2 := by
  unfold Schedule.expect Schedule.amountOf
  rw [duties_bar, Finset.sum_congr rfl fun d _ => amount_bar m ρ c 0 d, Finset.sum_const, Finset.card_univ, Fintype.card_bool, smul_eq_mul]
theorem expect_cr (r : ℕ) (hr : r < 14) : (Rd (F := F) m ρ).expect (crCell c) r = 1 := by
  unfold Schedule.expect Schedule.amountOf; rw [duties_cr m ρ c r hr, Finset.sum_singleton, amount_cr]
theorem expect_send (h : ℕ) (hh : h < 15) : (Rd (F := F) m ρ).expect (sendCell h c) (h / 2) = N := by
  unfold Schedule.expect Schedule.amountOf; rw [duties_send m ρ c h hh, Finset.sum_singleton, amount_send]
theorem expect_rcv (h : ℕ) (hh : h < 15) : (Rd (F := F) m ρ).expect (rcvCell h c) (h / 2) = N := by
  unfold Schedule.expect Schedule.amountOf; rw [duties_rcv m ρ c h hh, Finset.sum_singleton, amount_rcv]

theorem payload_bar_true : (Rd (F := F) m ρ).payload (barCell c) 0 true = barPay c := by dsimp only [Rd]; rw [if_pos kind_bar, if_pos rfl]
theorem payload_bar_false : (Rd (F := F) m ρ).payload (barCell c) 0 false = iprop(emp) := by
  dsimp only [Rd]; rw [if_pos kind_bar]; exact if_neg Bool.false_ne_true
theorem payload_cr (r : ℕ) (d : Bool) : (Rd (F := F) m ρ).payload (crCell c) r d = crPay r c := by
  dsimp only [Rd]; rw [kind_cr]; rfl
theorem payload_send (h : ℕ) (d : Bool) : (Rd (F := F) m ρ).payload (sendCell h c) (h / 2) d = sendPay m ρ h c := by
  dsimp only [Rd]; rw [kind_send h]
  rcases (by omega : h % 2 = 0 ∨ h % 2 = 1) with e | e
  · rw [e, if_neg (by decide), if_neg (by decide), if_pos rfl, show 2 * (h / 2) = h by omega]
  · rw [e, if_neg (by decide), if_neg (by decide), if_neg (by decide), if_pos rfl, show 2 * (h / 2) + 1 = h by omega]
theorem payload_rcv (h : ℕ) (d : Bool) : (Rd (F := F) m ρ).payload (rcvCell h c) (h / 2) d = rcvPay m ρ h c := by
  dsimp only [Rd]; rw [kind_rcv h]
  rcases (by omega : (h + 1) % 2 = 0 ∨ (h + 1) % 2 = 1) with e | e
  · rw [e, if_neg (by decide), if_neg (by decide), if_neg (by decide), if_neg (by decide), if_pos rfl, show 2 * (h / 2) + 1 = h by omega]
  · rw [e, if_neg (by decide), if_neg (by decide), if_neg (by decide), if_neg (by decide), if_neg (by decide), if_pos rfl, show 2 * (h / 2) = h by omega]

/-- All of the barrier's round: the right neighbour's slot. -/
theorem rest_bar : bigSep ((Rd (F := F) m ρ).duties (barCell c) 0 \ ∅) (fun d => (Rd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_cr (r : ℕ) (hr : r < 14) : bigSep ((Rd (F := F) m ρ).duties (crCell c) r \ ∅) (fun d => (Rd (F := F) m ρ).payload (crCell c) r d) = crPay r c := by
  rw [Finset.sdiff_empty, duties_cr m ρ c r hr, bigSep_singleton, payload_cr]
theorem rest_send (h : ℕ) (hh : h < 15) : bigSep ((Rd (F := F) m ρ).duties (sendCell h c) (h / 2) \ ∅) (fun d => (Rd (F := F) m ρ).payload (sendCell h c) (h / 2) d) = sendPay m ρ h c := by
  rw [Finset.sdiff_empty, duties_send m ρ c h hh, bigSep_singleton, payload_send]
theorem rest_rcv (h : ℕ) (hh : h < 15) : bigSep ((Rd (F := F) m ρ).duties (rcvCell h c) (h / 2) \ ∅) (fun d => (Rd (F := F) m ρ).payload (rcvCell h c) (h / 2) d) = rcvPay m ρ h c := by
  rw [Finset.sdiff_empty, duties_rcv m ρ c h hh, bigSep_singleton, payload_rcv]

end Sched

/-! ## What a device owes; the levels -/

/-- Index bound of the levels: a cell's level is the index. -/
abbrev LV : ℕ := 40
abbrev L : GSem nD τ sig → Finset ℕ := SiteBlocks.L LV
abbrev lv : GSem nD τ sig → ℕ → ℕ := SiteBlocks.lv

/-- The first of the indices from `a` on, split off. -/
theorem Ico_split {a n : ℕ} (h : a < n) : Finset.Ico a n = insert a (Finset.Ico (a + 1) n) := by
  ext i; rw [Finset.mem_insert, Finset.mem_Ico, Finset.mem_Ico]; omega

/-- What device `c` owes before hop `a`'s send and credit `b`'s signal. -/
def OO (a b : ℕ) (c : Dev nD) : CellTallies nD τ sig ℕ :=
  (∑ i ∈ Finset.Ico a 15, tallyAt (rcvCell i (nxt c)) (2 * i + 2) N) + ∑ i ∈ Finset.Ico b 14, tallyAt (crCell (prv c)) (2 * i + 3) 1

/-- What it owes at launch: all that, and a unit to each neighbour's barrier. -/
def O₁ (c : Dev nD) : CellTallies nD τ sig ℕ := OO 0 0 c + tallyAt (barCell (nxt c)) 1 1
def O₀ (c : Dev nD) : CellTallies nD τ sig ℕ := O₁ c + tallyAt (barCell (prv c)) 1 1

theorem OO_send (a b : ℕ) (c : Dev nD) (ha : a < 15) : OO a b c = OO (a + 1) b c + tallyAt (rcvCell a (nxt c)) (2 * a + 2) N := by
  unfold OO; rw [Ico_split ha, Finset.sum_insert (by simp)]; abel
theorem OO_cr (a b : ℕ) (c : Dev nD) (hb : b < 14) : OO a b c = OO a (b + 1) c + tallyAt (crCell (prv c)) (2 * b + 3) 1 := by
  unfold OO; rw [Ico_split hb, Finset.sum_insert (by simp)]; abel
theorem OO_end (c : Dev nD) : OO 15 14 c = 0 := by unfold OO; simp

theorem sum_pos {ι : Type} (s : Finset ι) (D : ι → CellTallies nD τ sig ℕ) (g : GSem nD τ sig) (k : ℕ)
    (h : 0 < (∑ i ∈ s, D i) g k) : ∃ i ∈ s, 0 < D i g k := by
  rw [Finset.sum_apply, Finsupp.finset_sum_apply] at h
  by_contra hn
  push Not at hn
  exact absurd (Finset.sum_eq_zero fun i hi => Nat.le_zero.mp (hn i hi)) (by omega)

theorem OO_pos {a b : ℕ} {c : Dev nD} {g : GSem nD τ sig} {k : ℕ} (h : 0 < OO a b c g k) :
    g.1.2 = .tc ∧ k < LV ∧ (2 * a + 2 ≤ k ∨ 2 * b + 3 ≤ k) := by
  unfold OO at h
  rw [Pi.add_apply, Finsupp.add_apply] at h
  rcases (by omega : 0 < (∑ i ∈ Finset.Ico a 15, tallyAt (rcvCell i (nxt c)) (2 * i + 2) N) g k
      ∨ 0 < (∑ i ∈ Finset.Ico b 14, tallyAt (crCell (prv c)) (2 * i + 3) 1) g k) with h | h
  · obtain ⟨i, hi, hp⟩ := sum_pos _ _ _ _ h
    obtain ⟨rfl, rfl⟩ := Pipeline.tallyAt_pos hp
    rw [Finset.mem_Ico] at hi
    exact ⟨rfl, by show _ < 40; omega, by omega⟩
  · obtain ⟨i, hi, hp⟩ := sum_pos _ _ _ _ h
    obtain ⟨rfl, rfl⟩ := Pipeline.tallyAt_pos hp
    rw [Finset.mem_Ico] at hi
    exact ⟨rfl, by show _ < 40; omega, by omega⟩

theorem O₀_pos {c : Dev nD} {g : GSem nD τ sig} {k : ℕ} (h : 0 < O₀ c g k) : g.1.2 = .tc ∧ k < LV ∧ 1 ≤ k := by
  unfold O₀ O₁ at h
  rw [Pi.add_apply, Finsupp.add_apply, Pi.add_apply, Finsupp.add_apply] at h
  rcases (by omega : 0 < OO 0 0 c g k ∨ 0 < tallyAt (barCell (nxt c)) 1 1 g k ∨ 0 < tallyAt (barCell (prv c)) 1 1 g k) with h | h | h
  · obtain ⟨h1, h2, h3⟩ := OO_pos h; exact ⟨h1, h2, by omega⟩
  · obtain ⟨rfl, rfl⟩ := Pipeline.tallyAt_pos h; exact ⟨rfl, by decide, le_refl _⟩
  · obtain ⟨rfl, rfl⟩ := Pipeline.tallyAt_pos h; exact ⟨rfl, by decide, le_refl _⟩

/-- A wait at index `i` is allowed when only later sends and credits are owed. -/
theorem mayWait_OO (c : Dev nD) (s : SemLoc sig) (i a b : ℕ) (hi : i < LV) (ha : i < 2 * a + 2) (hb : i < 2 * b + 3) :
    (levAts L lv : sProp 𝕄) ⊢ MayWait (c : Thread nD τ) s i (OO a b c) :=
  SiteBlocks.mayWait_of hi c s _ fun g k h => by
    obtain ⟨h1, h2, h3⟩ := OO_pos h
    exact ⟨SiteBlocks.mem_L' h1 h2, by omega⟩

/-- A staging wait (index 0) is allowed at launch and at the end. -/
theorem mayWait_stage (c : Dev nD) (s : SemLoc sig) (O : CellTallies nD τ sig ℕ) (hO : O = O₀ c ∨ O = 0) :
    (levAts L lv : sProp 𝕄) ⊢ MayWait (c : Thread nD τ) s 0 O := by
  rcases hO with rfl | rfl
  · exact SiteBlocks.mayWait_of (by decide) c s _ fun g k h => by
      obtain ⟨h1, h2, h3⟩ := O₀_pos h
      exact ⟨SiteBlocks.mem_L' h1 h2, by omega⟩
  · rw [MayWait_zero]; iintro -; iempintro

end Cert.Attn

end
-- ==== Proof.Own.lean ====
/-
# Operations on a device's own buffers

Rules for loading and storing a buffer held whole, the state in which a device computes its own attention sums step by
step, and one rule for each kind of operation of that computation, at any batch and head.
-/
module

public import proofs.«01_k».proof.Proof.Common

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The kernel's program at device `c`, with post `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A whole buffer of device `c`, holding `f`. -/
abbrev whole (c : Dev nD) (b : Ref sig .tc) (f : Buf (Elt F) ((c : Thread nD τ).loc b)) : sProp 𝕄 := ((c : Thread nD τ).loc b) ↦{fullShare} f

/-- Entailments compose. -/
theorem etrans {P Q R : sProp 𝕄} (h : P ⊢ Q) (h' : Q ⊢ R) : P ⊢ R := h.trans h'

section Plain
variable {α : Type} {c : Dev nD}

/-- A load from a buffer held whole, in any state that contains it. -/
theorem load_of {Q : α → sProp 𝕄} {cs : CoreSpace} {s : Shape} {e : EltTy} {b : Memref sig .tc cs s e} {r : LoadRect s} {hl : b.view.LoadsAt r}
    {k : (r.shape.Idx → Elt F e) → Prog (TpuEff nD τ sig (Elt F) Λ₀ .tc) α}
    {P R : sProp 𝕄} {f : Buf (Elt F) (b.view.loc (c : Thread nD τ))}
    (hin : P ⊢ iprop((b.view.loc (c : Thread nD τ) ↦{fullShare} f) ∗ R))
    (hout : iprop((b.view.loc (c : Thread nD τ) ↦{fullShare} f) ∗ R) ⊢ WP c (k (b.view.readAt (Elt F) r f)) Q) :
    P ⊢ WP c (.op (.load b r hl) k) Q := by
  refine hin.trans ?_
  iintro ⟨H, HR⟩
  iapply (wp_load 𝒱₀ (c : Thread nD τ) none Set.univ (m := b) (Finset.subset_univ _)) $$ H
  iintro H
  iapply hout
  isplitl [H] <;> iassumption

/-- A store into a buffer held whole, in any state that contains it. -/
theorem store_of {Q : α → sProp 𝕄} {cs : CoreSpace} {s : Shape} {e : EltTy} {b : Memref sig .tc cs s e} {r : Rect s} {w : r.shape.Idx → Elt F e}
    {hx : (b.access r).Stores Finset.univ} {hm : Finset.univ = Finset.univ ∨ ∀ a, r.stride a = 1}
    {k : PUnit → Prog (TpuEff nD τ sig (Elt F) Λ₀ .tc) α} {P R : sProp 𝕄} {f : Buf (Elt F) (b.view.loc (c : Thread nD τ))}
    (hin : P ⊢ iprop((b.view.loc (c : Thread nD τ) ↦{fullShare} f) ∗ R))
    (hout : iprop((b.view.loc (c : Thread nD τ) ↦{fullShare} ((b.access r).write (Elt F) f w Finset.univ)) ∗ R) ⊢ WP c (k ⟨⟩) Q) :
    P ⊢ WP c (.op (.store b r w Finset.univ hx hm) k) Q := by
  refine hin.trans ?_
  iintro ⟨H, HR⟩
  iapply (wp_store 𝒱₀ (c : Thread nD τ) none Set.univ (m := b) (r := r) (Mk := Finset.univ) (Finset.subset_univ _)) $$ H
  iintro H
  iapply hout
  isplitl [H] <;> iassumption

end Plain

/-! ## Building a buffer rectangle by rectangle -/

/-- The elements of the first `n` of the steps `step` hold what `G` says. -/
def Agree {s : Shape} {α : Type} (step : s.Idx → ℕ) (G : s.Idx → α) (n : ℕ) (f : s.Idx → α) : Prop := ∀ i, step i < n → f i = G i

/-- Storing step `n`'s elements, as `G` says, extends the agreement. -/
theorem Agree.store {b : Ref sig .tc} {step : b.ty.shape.Idx → ℕ} {G f : b.ty.shape.Idx → Elt F b.ty.elt} {n : ℕ}
    (h : Agree step G n f) {r : Rect b.ty.shape} {w : r.shape.Idx → Elt F b.ty.elt}
    (hG : ∀ x : r.shape.Idx, G (r.emb x) = w x) (hs : ∀ i, step i = n → i ∈ r.set) :
    Agree step G (n + 1) (((Memref.whole b).access r).write (Elt F) f w Finset.univ) := by
  intro i hi
  by_cases hm : i ∈ r.set
  · rw [← Rect.map_emb_univ, Finset.mem_map] at hm
    obtain ⟨x, -, rfl⟩ := hm
    exact ((((Memref.whole b).access r).write_emb_of_mem (Val := Elt F) f w (Finset.mem_univ x)).trans (hG x).symm)
  · have hne : step i ≠ n := fun h => hm (hs i h)
    refine Eq.trans (View.write_of_not_mem _ _ _ ?_) (h i (by omega))
    rw [View.setOn_univ]
    show i ∉ ((View.whole b).slice r).set
    rw [View.set_slice_whole]; exact hm

/-- The step at which an element of the accumulator is stored: 17 steps a batch, alternating weighted values and sums. -/
def stepAcc (i : S1024x1152.Idx) : ℕ :=
  (i 0).val / 256 * 17 + (if (i 1).val < 1024 then 2 * ((i 1).val / 128) else if (i 1).val < 1032 then 2 * ((i 1).val - 1024) + 1 else 16)

/-- The state while a device computes its own sums: `n` steps stored, queries, keys and values at hand, and `R` besides. -/
def accP (c : Dev nD) (n : ℕ) : sProp 𝕄 := iprop(∃ f : S1024x1152.Idx → Elt F .f32, ⌜Agree stepAcc (accOwn m ρ c) n f⌝ ∗ whole c cc0_scratch1 f)
def OS (c : Dev nD) (n : ℕ) (R : sProp 𝕄) : sProp 𝕄 :=
  iprop(accP m ρ c n ∗ whole c cc0_scratch0 (qA m ρ c) ∗ whole c cc0_stg3_0 (kA m ρ c) ∗ whole c cc0_stg4_0 (vA m ρ c) ∗ R)

section Own
variable {m ρ} {α : Type} {c : Dev nD} {n : ℕ}

/-- A rectangle of the queries, read. -/
theorem read_q (b : Fin 4) (h : Fin 8) {off : Fin 2 → ℕ} {inb} (hoff : off = ![256 * b.val, 128 * h.val]) :
    (Memref.whole cc0_scratch0).view.readAt (Elt F) (Rect.unit (s := S1024x1024) off S256x128.size inb).toLoadRect (qA m ρ c) = qB m ρ c b h := by
  subst hoff
  rw [View.readAt_rect]
  funext x
  show qA m ρ c _ = qA m ρ c _
  refine congrArg (qA m ρ c) (funext fun a => Fin.ext ?_)
  refine (ValueKit.view_emb_slice_whole_unit_val cc0_scratch0 _ _ inb x a).trans ?_
  match a with
  | ⟨0, _⟩ => rfl
  | ⟨1, _⟩ => rfl

theorem read_k (b : Fin 4) (h : Fin 8) {off : Fin 4 → ℕ} {inb} (hoff : off = ![b.val, 0, h.val, 0]) :
    (Memref.whole cc0_stg3_0).view.readAt (Elt F) (Rect.unit (s := S4x1024x8x128) off S1x1024x1x128.size inb).toLoadRect (kA m ρ c) = kB m ρ c b h := by
  subst hoff
  rw [View.readAt_rect]
  funext x
  show kA m ρ c _ = kA m ρ c _
  refine congrArg (kA m ρ c) (funext fun a => Fin.ext ?_)
  refine (ValueKit.view_emb_slice_whole_unit_val cc0_stg3_0 _ _ inb x a).trans ?_
  have h0 : (x 0).val < 1 := (x 0).isLt
  have h2 : (x 2).val < 1 := (x 2).isLt
  match a with
  | ⟨0, _⟩ => show b.val + (x 0).val = b.val; omega
  | ⟨1, _⟩ => exact Nat.zero_add _
  | ⟨2, _⟩ => show h.val + (x 2).val = h.val; omega
  | ⟨3, _⟩ => exact Nat.zero_add _

theorem read_v (b : Fin 4) (h : Fin 8) {off : Fin 4 → ℕ} {inb} (hoff : off = ![b.val, 0, h.val, 0]) :
    (Memref.whole cc0_stg4_0).view.readAt (Elt F) (Rect.unit (s := S4x1024x8x128) off S1x1024x1x128.size inb).toLoadRect (vA m ρ c) = vB m ρ c b h := by
  subst hoff
  rw [View.readAt_rect]
  funext x
  show vA m ρ c _ = vA m ρ c _
  refine congrArg (vA m ρ c) (funext fun a => Fin.ext ?_)
  refine (ValueKit.view_emb_slice_whole_unit_val cc0_stg4_0 _ _ inb x a).trans ?_
  have h0 : (x 0).val < 1 := (x 0).isLt
  have h2 : (x 2).val < 1 := (x 2).isLt
  match a with
  | ⟨0, _⟩ => show b.val + (x 0).val = b.val; omega
  | ⟨1, _⟩ => exact Nat.zero_add _
  | ⟨2, _⟩ => show h.val + (x 2).val = h.val; omega
  | ⟨3, _⟩ => exact Nat.zero_add _

/-- Loading the queries of a batch and head. -/
theorem own_q {Q : α → sProp 𝕄} {R : sProp 𝕄} (b : Fin 4) (h : Fin 8) {off : Fin 2 → ℕ} {inb hl} {k : (S256x128.Idx → Elt F .bf16) → Prog (TpuEff nD τ sig (Elt F) Λ₀ .tc) α}
    (hoff : off = ![256 * b.val, 128 * h.val]) (H : OS m ρ c n R ⊢ WP c (k (qB m ρ c b h)) Q) :
    OS m ρ c n R ⊢ WP c (.op (.load (Memref.whole cc0_scratch0) (Rect.unit (s := S1024x1024) off S256x128.size inb).toLoadRect hl) k) Q := by
  refine load_of (f := qA m ρ c) (R := iprop(accP m ρ c n ∗ whole c cc0_stg3_0 (kA m ρ c) ∗ whole c cc0_stg4_0 (vA m ρ c) ∗ R)) ?_ ?_
  · unfold OS; iintro ⟨H1, H2, H3⟩; isplitl [H2]; · iexact H2
    isplitl [H1] <;> iassumption
  · rw [read_q b h hoff]; refine etrans ?_ H
    unfold OS; iintro ⟨H1, H2, H3⟩; isplitl [H2]; · iexact H2
    isplitl [H1] <;> iassumption

/-- Loading the keys of a batch and head. -/
theorem own_k {Q : α → sProp 𝕄} {R : sProp 𝕄} (b : Fin 4) (h : Fin 8) {off : Fin 4 → ℕ} {inb hl} {k : (S1x1024x1x128.Idx → Elt F .bf16) → Prog (TpuEff nD τ sig (Elt F) Λ₀ .tc) α}
    (hoff : off = ![b.val, 0, h.val, 0]) (H : OS m ρ c n R ⊢ WP c (k (kB m ρ c b h)) Q) :
    OS m ρ c n R ⊢ WP c (.op (.load (Memref.whole cc0_stg3_0) (Rect.unit (s := S4x1024x8x128) off S1x1024x1x128.size inb).toLoadRect hl) k) Q := by
  refine load_of (f := kA m ρ c) (R := iprop(accP m ρ c n ∗ whole c cc0_scratch0 (qA m ρ c) ∗ whole c cc0_stg4_0 (vA m ρ c) ∗ R)) ?_ ?_
  · unfold OS; iintro ⟨H1, H2, H3, H4⟩; isplitl [H3]; · iexact H3
    isplitl [H1]; · iexact H1
    isplitl [H2] <;> iassumption
  · rw [read_k b h hoff]; refine etrans ?_ H
    unfold OS; iintro ⟨H3, H1, H2, H4⟩; isplitl [H1]; · iexact H1
    isplitl [H2]; · iexact H2
    isplitl [H3] <;> iassumption

/-- Loading the values of a batch and head. -/
theorem own_v {Q : α → sProp 𝕄} {R : sProp 𝕄} (b : Fin 4) (h : Fin 8) {off : Fin 4 → ℕ} {inb hl} {k : (S1x1024x1x128.Idx → Elt F .bf16) → Prog (TpuEff nD τ sig (Elt F) Λ₀ .tc) α}
    (hoff : off = ![b.val, 0, h.val, 0]) (H : OS m ρ c n R ⊢ WP c (k (vB m ρ c b h)) Q) :
    OS m ρ c n R ⊢ WP c (.op (.load (Memref.whole cc0_stg4_0) (Rect.unit (s := S4x1024x8x128) off S1x1024x1x128.size inb).toLoadRect hl) k) Q := by
  refine load_of (f := vA m ρ c) (R := iprop(accP m ρ c n ∗ whole c cc0_scratch0 (qA m ρ c) ∗ whole c cc0_stg3_0 (kA m ρ c) ∗ R)) ?_ ?_
  · unfold OS; iintro ⟨H1, H2, H3, H4, H5⟩; isplitl [H4]; · iexact H4
    isplitl [H1]; · iexact H1
    isplitl [H2]; · iexact H2
    isplitl [H3] <;> iassumption
  · rw [read_v b h hoff]; refine etrans ?_ H
    unfold OS; iintro ⟨H4, H1, H2, H3, H5⟩; isplitl [H1]; · iexact H1
    isplitl [H2]; · iexact H2
    isplitl [H3]; · iexact H3
    isplitl [H4] <;> iassumption

/-- A load from the accumulator of which nothing is read. -/
theorem own_dead {Q : α → sProp 𝕄} {R : sProp 𝕄} {r : Rect S1024x1152} {hl} {k : (r.shape.Idx → Elt F .f32) → Prog (TpuEff nD τ sig (Elt F) Λ₀ .tc) α}
    (H : ∀ x, OS m ρ c n R ⊢ WP c (k x) Q) :
    OS m ρ c n R ⊢ WP c (.op (.load (Memref.whole cc0_scratch1) r.toLoadRect hl) k) Q := by
  unfold OS accP
  iintro ⟨⟨%f, %hf, H1⟩, H2⟩
  iapply (load_of (k := k) (c := c) (f := f) (R := iprop(whole c cc0_scratch0 (qA m ρ c) ∗ whole c cc0_stg3_0 (kA m ρ c) ∗ whole c cc0_stg4_0 (vA m ρ c) ∗ R)) (Entails.refl _) ?_)
  · refine etrans ?_ (H _)
    unfold OS accP
    iintro ⟨H1, H2⟩
    isplitl [H1]
    · iexists f; isplitr
      · ipureintro; exact hf
      · iexact H1
    · iexact H2
  · isplitl [H1] <;> iassumption

/-- A store of the next step into the accumulator. -/
theorem own_store {Q : α → sProp 𝕄} {R : sProp 𝕄} {r : Rect S1024x1152} {w : r.shape.Idx → Elt F .f32} {hx hm} {k : PUnit → Prog (TpuEff nD τ sig (Elt F) Λ₀ .tc) α}
    (hG : ∀ x : r.shape.Idx, accOwn m ρ c (r.emb x) = w x) (hs : ∀ i, stepAcc i = n → i ∈ r.set)
    (H : OS m ρ c (n + 1) R ⊢ WP c (k ⟨⟩) Q) :
    OS m ρ c n R ⊢ WP c (.op (.store (Memref.whole cc0_scratch1) r w Finset.univ hx hm) k) Q := by
  unfold OS accP
  iintro ⟨⟨%f, %hf, H1⟩, H2⟩
  iapply (store_of (k := k) (c := c) (f := f) (R := iprop(whole c cc0_scratch0 (qA m ρ c) ∗ whole c cc0_stg3_0 (kA m ρ c) ∗ whole c cc0_stg4_0 (vA m ρ c) ∗ R)) (Entails.refl _) ?_)
  · refine etrans ?_ H
    unfold OS accP
    iintro ⟨H1, H2⟩
    isplitl [H1]
    · iexists _; isplitr
      · ipureintro; exact Agree.store (b := cc0_scratch1) hf hG hs
      · iexact H1
    · iexact H2
  · isplitl [H1] <;> iassumption

/-- Storing the weighted values of batch `b`, head `h`. -/
theorem own_o {Q : α → sProp 𝕄} {R : sProp 𝕄} (b : Fin 4) (h : Fin 8) {off : Fin 2 → ℕ} {inb} {w : S256x128.Idx → Elt F .f32} {hx hm}
    {k : PUnit → Prog (TpuEff nD τ sig (Elt F) Λ₀ .tc) α}
    (hoff : off = ![256 * b.val, 128 * h.val]) (hn : n = 17 * b.val + 2 * h.val) (hw : w = oB m ρ c b h)
    (H : OS m ρ c (n + 1) R ⊢ WP c (k ⟨⟩) Q) :
    OS m ρ c n R ⊢ WP c (.op (.store (Memref.whole cc0_scratch1) (Rect.unit (s := S1024x1152) off S256x128.size inb) w Finset.univ hx hm) k) Q := by
  subst hoff hw hn
  refine own_store ?_ ?_ H
  · intro x
    have e0 : ((Rect.unit (s := S1024x1152) _ S256x128.size inb).emb x 0 : ℕ) = 256 * b.val + (x 0).val := ValueKit.rect_emb_unit_val _ _ inb x 0
    have e1 : ((Rect.unit (s := S1024x1152) _ S256x128.size inb).emb x 1 : ℕ) = 128 * h.val + (x 1).val := ValueKit.rect_emb_unit_val _ _ inb x 1
    have h0 : (x 0).val < 256 := (x 0).isLt
    have h1 : (x 1).val < 128 := (x 1).isLt
    have hb := b.isLt
    have hh := h.isLt
    unfold accOwn
    rw [if_pos (by rw [e1]; omega)]
    have d4 : dv4 ((Rect.unit (s := S1024x1152) _ S256x128.size inb).emb x 0) = b := Fin.ext (by show _ / 256 = _; rw [e0]; omega)
    have d8 : dv8 ((Rect.unit (s := S1024x1152) _ S256x128.size inb).emb x 1) = h := Fin.ext (by show _ / 128 % 8 = _; rw [e1]; omega)
    rw [d4, d8]
    refine congrArg (oB m ρ c b h) (funext fun a => Fin.ext ?_)
    match a with
    | ⟨0, _⟩ => show _ % 256 = (x 0).val; rw [e0]; omega
    | ⟨1, _⟩ => show _ % 128 = (x 1).val; rw [e1]; omega
  · intro i hi
    rw [Rect.mem_set_unit]
    have hb := b.isLt
    have hh := h.isLt
    have i0 : (i 0).val < 1024 := (i 0).isLt
    have i1 : (i 1).val < 1152 := (i 1).isLt
    unfold stepAcc at hi
    intro a
    match a with
    | ⟨0, _⟩ => show 256 * b.val ≤ (i 0).val ∧ (i 0).val < 256 * b.val + 256; split at hi <;> [skip; split at hi] <;> omega
    | ⟨1, _⟩ => show 128 * h.val ≤ (i 1).val ∧ (i 1).val < 128 * h.val + 128; split at hi <;> [skip; split at hi] <;> omega

/-- Storing the sums of weights of batch `b`, head `h`. -/
theorem own_l {Q : α → sProp 𝕄} {R : sProp 𝕄} (b : Fin 4) (h : Fin 8) {off : Fin 2 → ℕ} {inb} {w : S256x1.Idx → Elt F .f32} {hx hm}
    {k : PUnit → Prog (TpuEff nD τ sig (Elt F) Λ₀ .tc) α}
    (hoff : off = ![256 * b.val, 1024 + h.val]) (hn : n = 17 * b.val + 2 * h.val + 1) (hw : w = lB m ρ c b h)
    (H : OS m ρ c (n + 1) R ⊢ WP c (k ⟨⟩) Q) :
    OS m ρ c n R ⊢ WP c (.op (.store (Memref.whole cc0_scratch1) (Rect.unit (s := S1024x1152) off S256x1.size inb) w Finset.univ hx hm) k) Q := by
  subst hoff hw hn
  refine own_store ?_ ?_ H
  · intro x
    have e0 : ((Rect.unit (s := S1024x1152) _ S256x1.size inb).emb x 0 : ℕ) = 256 * b.val + (x 0).val := ValueKit.rect_emb_unit_val _ _ inb x 0
    have e1 : ((Rect.unit (s := S1024x1152) _ S256x1.size inb).emb x 1 : ℕ) = 1024 + h.val + (x 1).val := ValueKit.rect_emb_unit_val _ _ inb x 1
    have h0 : (x 0).val < 256 := (x 0).isLt
    have h1 : (x 1).val < 1 := (x 1).isLt
    have hb := b.isLt
    have hh := h.isLt
    unfold accOwn
    rw [if_neg (by rw [e1]; omega), if_pos (by rw [e1]; omega)]
    have d4 : dv4 ((Rect.unit (s := S1024x1152) _ S256x1.size inb).emb x 0) = b := Fin.ext (by show _ / 256 = _; rw [e0]; omega)
    have d8 : hd8 ((Rect.unit (s := S1024x1152) _ S256x1.size inb).emb x 1) = h := Fin.ext (by show _ % 8 = _; rw [e1]; omega)
    rw [d4, d8]
    refine congrArg (lB m ρ c b h) (funext fun a => Fin.ext ?_)
    match a with
    | ⟨0, _⟩ => show _ % 256 = (x 0).val; rw [e0]; omega
    | ⟨1, _⟩ => show 0 = (x 1).val; omega
  · intro i hi
    rw [Rect.mem_set_unit]
    have hb := b.isLt
    have hh := h.isLt
    have i0 : (i 0).val < 1024 := (i 0).isLt
    have i1 : (i 1).val < 1152 := (i 1).isLt
    unfold stepAcc at hi
    intro a
    match a with
    | ⟨0, _⟩ => show 256 * b.val ≤ (i 0).val ∧ (i 0).val < 256 * b.val + 256; split at hi <;> [skip; split at hi] <;> omega
    | ⟨1, _⟩ => show 1024 + h.val ≤ (i 1).val ∧ (i 1).val < 1024 + h.val + 1; split at hi <;> [skip; split at hi] <;> omega

/-- Storing the padding of batch `b`. -/
theorem own_z {Q : α → sProp 𝕄} {R : sProp 𝕄} (b : Fin 4) {off : Fin 2 → ℕ} {inb} {w : S256x120.Idx → Elt F .f32} {hx hm}
    {k : PUnit → Prog (TpuEff nD τ sig (Elt F) Λ₀ .tc) α}
    (hoff : off = ![256 * b.val, 1032]) (hn : n = 17 * b.val + 16) (hw : w = k0_pay122 (F := F))
    (H : OS m ρ c (n + 1) R ⊢ WP c (k ⟨⟩) Q) :
    OS m ρ c n R ⊢ WP c (.op (.store (Memref.whole cc0_scratch1) (Rect.unit (s := S1024x1152) off S256x120.size inb) w Finset.univ hx hm) k) Q := by
  subst hoff hw hn
  refine own_store ?_ ?_ H
  · intro x
    have e0 : ((Rect.unit (s := S1024x1152) _ S256x120.size inb).emb x 0 : ℕ) = 256 * b.val + (x 0).val := ValueKit.rect_emb_unit_val _ _ inb x 0
    have e1 : ((Rect.unit (s := S1024x1152) _ S256x120.size inb).emb x 1 : ℕ) = 1032 + (x 1).val := ValueKit.rect_emb_unit_val _ _ inb x 1
    have h0 : (x 0).val < 256 := (x 0).isLt
    have h1 : (x 1).val < 120 := (x 1).isLt
    have hb := b.isLt
    unfold accOwn
    rw [if_neg (by rw [e1]; omega), if_neg (by rw [e1]; omega)]
    refine congrArg (k0_pay122 (F := F)) (funext fun a => Fin.ext ?_)
    match a with
    | ⟨0, _⟩ => show _ % 256 = (x 0).val; rw [e0]; omega
    | ⟨1, _⟩ => show (_ - 1032) % 120 = (x 1).val; rw [e1]; omega
  · intro i hi
    rw [Rect.mem_set_unit]
    have hb := b.isLt
    have i0 : (i 0).val < 1024 := (i 0).isLt
    have i1 : (i 1).val < 1152 := (i 1).isLt
    unfold stepAcc at hi
    intro a
    match a with
    | ⟨0, _⟩ => show 256 * b.val ≤ (i 0).val ∧ (i 0).val < 256 * b.val + 256; split at hi <;> [skip; split at hi] <;> omega
    | ⟨1, _⟩ => show 1032 ≤ (i 1).val ∧ (i 1).val < 1032 + 120; split at hi <;> [skip; split at hi] <;> omega

/-- All 68 steps stored, the accumulator holds the device's own sums. -/
theorem own_done {c : Dev nD} : (accP m ρ c 68 : sProp 𝕄) ⊢ whole c cc0_scratch1 (accOwn m ρ c) := by
  unfold accP
  iintro ⟨%f, %hf, H⟩
  have e : f = accOwn m ρ c := funext fun i => hf i (by
    have i0 : (i 0).val < 1024 := (i 0).isLt
    have i1 : (i 1).val < 1152 := (i 1).isLt
    unfold stepAcc
    split <;> [skip; split] <;> omega)
  subst e; iexact H

end Own

end Cert.Attn

end
-- ==== Proof.Ring.lean ====
/-
# The ring's hops

What a device knows and holds between the steps of a hop, and one rule for each synchronising step of a hop: the send,
the wait for the send, the wait for the arrival, the credit given to the left neighbour, and the wait for the right
neighbour's credit.
-/
module

public import proofs.«01_k».proof.Proof.Own

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The fact that packets of the ring are in the right slot: names for the slots by a hop's parity. -/
abbrev sIx (p : Fin 2) : Fin 6 := ⟨2 + p.val, by omega⟩
abbrev rIx (p : Fin 2) : Fin 6 := ⟨4 + p.val, by omega⟩

theorem csem_s (p : Fin 2) : csem (sIx p) = .dma (sS p) := by fin_cases p <;> rfl
theorem csem_r (p : Fin 2) : csem (rIx p) = .dma (rS p) := by fin_cases p <;> rfl

/-- What every device knows: the invariants of all cells, the levels, and that every cell has reached round 0. -/
def records (K : Dev nD × Fin 6 → ℕ) : sProp 𝕄 :=
  iprop((bigSep Finset.univ fun ck : Dev nD × Fin 6 => cellInv ER (Rd m ρ) (K ck) (kcell ck))
    ∗ (bigSep Finset.univ fun ck : Dev nD × Fin 6 => reached ER (kcell ck) 0) ∗ levAts L lv)

instance records_persistent (K : Dev nD × Fin 6 → ℕ) : BI.Persistent (records m ρ K) := by unfold records; infer_instance

section Rec
variable (K : Dev nD × Fin 6 → ℕ)

theorem rec_inv (ck : Dev nD × Fin 6) : (records m ρ K : sProp 𝕄) ⊢ cellInv ER (Rd m ρ) (K ck) (kcell ck) := by
  unfold records; exact BI.sep_and.trans (BI.and_elimL.trans (bigSep_elim (Finset.mem_univ ck)))
theorem rec_reached (ck : Dev nD × Fin 6) : (records m ρ K : sProp 𝕄) ⊢ reached ER (kcell ck) 0 := by
  unfold records; exact BI.sep_and.trans (BI.and_elimR.trans (BI.sep_and.trans (BI.and_elimL.trans (bigSep_elim (Finset.mem_univ ck)))))
theorem rec_wait (c : Dev nD) (s : SemLoc sig) (i a b : ℕ) (hi : i < LV) (ha : i < 2 * a + 2) (hb : i < 2 * b + 3) :
    (records m ρ K : sProp 𝕄) ⊢ MayWait (c : Thread nD τ) s i (OO a b c) := by
  have e := mayWait_OO (F := F) c s i a b hi ha hb
  unfold records
  iintro ⟨-, -, H⟩
  iapply e
  iexact H
theorem inv_bar (c : Dev nD) : (records m ρ K : sProp 𝕄) ⊢ cellInv ER (Rd m ρ) (K (c, 0)) (barCell c) := rec_inv m ρ K (c, 0)
theorem inv_cr (c : Dev nD) : (records m ρ K : sProp 𝕄) ⊢ cellInv ER (Rd m ρ) (K (c, 1)) (crCell c) := rec_inv m ρ K (c, 1)
theorem inv_send (h : ℕ) (c : Dev nD) : (records m ρ K : sProp 𝕄) ⊢ cellInv ER (Rd m ρ) (K (c, sIx (par h))) (sendCell h c) := by
  have e := rec_inv m ρ K (c, sIx (par h))
  have : kcell (c, sIx (par h)) = sendCell h c := by show (_, _) = (_, _); rw [csem_s]
  rw [this] at e; exact e
theorem inv_rcv (h : ℕ) (c : Dev nD) : (records m ρ K : sProp 𝕄) ⊢ cellInv ER (Rd m ρ) (K (c, rIx (par (h + 1)))) (rcvCell h c) := by
  have e := rec_inv m ρ K (c, rIx (par (h + 1)))
  have : kcell (c, rIx (par (h + 1))) = rcvCell h c := by show (_, _) = (_, _); rw [csem_r]
  rw [this] at e; exact e

end Rec

/-! ## The ring's state -/

/-- A device's position at round `r` of one of its cells. -/
def At (g : GSem nD τ sig) (r : ℕ) : sProp 𝕄 := iprop(atPos ER g r ∅ 0 ∗ reached ER g r)

/-- What device `c` owes, with whatever it has waited for. -/
def Ow (c : Dev nD) (O : CellTallies nD τ sig ℕ) : sProp 𝕄 := iprop(∃ W, owes (c : Thread nD τ) O W)

/-- The tokens of the sends from `a` on, and of the credits from `b` on. -/
def TokS (c : Dev nD) (a : ℕ) : sProp 𝕄 :=
  bigSep (Finset.Ico a 15) fun i => iprop(dutyTok ER (sendCell i c) (i / 2) false ∗ dutyTok ER (rcvCell i (nxt c)) (i / 2) false)
def TokC (c : Dev nD) (b : ℕ) : sProp 𝕄 := bigSep (Finset.Ico b 14) fun i => dutyTok ER (crCell (prv c)) i false

/-- The credits for the arrivals from `a` on, and for the neighbour's credits from `b` on. -/
def CrdR (c : Dev nD) (a : ℕ) : sProp 𝕄 := bigSep (Finset.Ico a 15) fun i => cred (tallyAt (rcvCell i c) (2 * i + 2) N)
def CrdC (c : Dev nD) (b : ℕ) : sProp 𝕄 := bigSep (Finset.Ico b 14) fun i => cred (tallyAt (crCell c) (2 * i + 3) 1)

theorem TokS_split (c : Dev nD) {a : ℕ} (h : a < 15) : (TokS c a : sProp 𝕄)
    = iprop((dutyTok ER (sendCell a c) (a / 2) false ∗ dutyTok ER (rcvCell a (nxt c)) (a / 2) false) ∗ TokS c (a + 1)) := by
  unfold TokS; rw [Ico_split h, bigSep_insert (by simp)]; rfl
theorem TokC_split (c : Dev nD) {b : ℕ} (h : b < 14) : (TokC c b : sProp 𝕄) = iprop(dutyTok ER (crCell (prv c)) b false ∗ TokC c (b + 1)) := by
  unfold TokC; rw [Ico_split h, bigSep_insert (by simp)]; rfl
theorem CrdR_split (c : Dev nD) {a : ℕ} (h : a < 15) : (CrdR c a : sProp 𝕄) = iprop(cred (tallyAt (rcvCell a c) (2 * a + 2) N) ∗ CrdR c (a + 1)) := by
  unfold CrdR; rw [Ico_split h, bigSep_insert (by simp)]; rfl
theorem CrdC_split (c : Dev nD) {b : ℕ} (h : b < 14) : (CrdC c b : sProp 𝕄) = iprop(cred (tallyAt (crCell c) (2 * b + 3) 1) ∗ CrdC c (b + 1)) := by
  unfold CrdC; rw [Ico_split h, bigSep_insert (by simp)]; rfl

/-- The state of device `c` after `hs` sends, `ws` waits for them, `wr` waits for arrivals, `sg` credits given and `wc`
    credits received, with `X` besides. -/
def St (K : Dev nD × Fin 6 → ℕ) (c : Dev nD) (hs ws wr sg wc : ℕ) (X : sProp 𝕄) : sProp 𝕄 :=
  iprop(records m ρ K ∗ (At (sendCell ws c) (ws / 2) ∗ At (sendCell (ws + 1) c) ((ws + 1) / 2))
    ∗ (At (rcvCell wr c) (wr / 2) ∗ At (rcvCell (wr + 1) c) ((wr + 1) / 2)) ∗ At (crCell c) wc
    ∗ TokS c hs ∗ TokC c sg ∗ CrdR c wr ∗ CrdC c wc ∗ Ow c (OO hs sg c) ∗ X)

/-- Semaphores two hops apart are the same. -/
theorem sendCell_two (h : ℕ) (c : Dev nD) : sendCell (h + 2) c = sendCell h c := by unfold sendCell; rw [par_add_two]
theorem rcvCell_two (h : ℕ) (c : Dev nD) : rcvCell (h + 2) c = rcvCell h c := by
  show (_, _) = (_, _); rw [show h + 2 + 1 = (h + 1) + 2 by rfl, par_add_two]

/-- The states of hop `h`, with the accumulator's and other resources as `Y`: ready to send, sent, source back, arrived,
    and credit given. -/
def S0 (K : Dev nD × Fin 6 → ℕ) (c : Dev nD) (h : ℕ) (Y : sProp 𝕄) : sProp 𝕄 :=
  St m ρ K c h h h h h iprop(slotX c (par h) (pkt m ρ (back h c)) ∗ (slotAny (nxt c) (par (h + 1)) ∗ reached ER (rcvCell h (nxt c)) (h / 2)) ∗ Y)
def S1 (K : Dev nD × Fin 6 → ℕ) (c : Dev nD) (h : ℕ) (Y : sProp 𝕄) : sProp 𝕄 :=
  St m ρ K c (h + 1) h h h h iprop(cred (tallyAt (sendCell h c) 0 N) ∗ Y)
def S2 (K : Dev nD × Fin 6 → ℕ) (c : Dev nD) (h : ℕ) (Y : sProp 𝕄) : sProp 𝕄 :=
  St m ρ K c (h + 1) (h + 1) h h h iprop(slotX c (par h) (pkt m ρ (back h c)) ∗ Y)
def S3 (K : Dev nD × Fin 6 → ℕ) (c : Dev nD) (h : ℕ) (Y : sProp 𝕄) : sProp 𝕄 :=
  St m ρ K c (h + 1) (h + 1) (h + 1) h h
    iprop(slotX c (par (h + 1)) (pkt m ρ (back (h + 1) c)) ∗ (reached ER (crCell (prv c)) h ∗ slotX c (par h) (pkt m ρ (back h c))) ∗ Y)
def S4 (K : Dev nD × Fin 6 → ℕ) (c : Dev nD) (h : ℕ) (Y : sProp 𝕄) : sProp 𝕄 :=
  St m ρ K c (h + 1) (h + 1) (h + 1) (h + 1) h iprop(slotX c (par (h + 1)) (pkt m ρ (back (h + 1) c)) ∗ Y)

section Steps
variable {m ρ} {α : Type} {c : Dev nD} {K : Dev nD × Fin 6 → ℕ} {h : ℕ}

set_option maxHeartbeats 1000000 in
/-- The send of hop `h`. -/
theorem ring_send {Q : α → sProp 𝕄} {Y : sProp 𝕄} (h : ℕ) (hh : h < 15) {d : Dev nD} (hn : d = nxt c)
    {src dst : Memref sig .tc .vmem S1024x1152 .bf16} {s1 s2 : DmaSem sig} (e1 : src = slotM (par h)) (e2 : dst = slotM (par (h + 1)))
    (e3 : s1 = sS (par h)) (e4 : s2 = rS (par (h + 1))) {hsc hsrc hdst hsem}
    {k : PUnit → Prog (TpuEff nD τ sig (Elt F) Λ₀ .tc) α} (H : S1 m ρ K c h Y ⊢ WP c (k ⟨⟩) Q) :
    S0 m ρ K c h Y ⊢ WP c (.op (.enqueueDma src (.remote (Dev.tc d) dst (.dma s1) hsc) (.dma s2) hsrc hdst hsem) k) Q := by
  subst e1 e2 e3 e4
  subst hn
  unfold S0 St At Ow
  rw [TokS_split c hh]
  iintro ⟨#HR, ⟨⟨HA1, #Hr1⟩, HA2⟩, HAr, ⟨HAc, #Hrc⟩, ⟨⟨Ht1, Ht2⟩, HtS⟩, HtC, HcR, HcC, ⟨%W, HO⟩, HX, ⟨HN, #HrN⟩, HY⟩
  unfold slotAny slotX slotPts
  icases HN with ⟨%fd, HN⟩
  iapply (Rounds.wp_send_pointsTo_with 𝒱₀ ER (Rd m ρ) (c : Thread nD τ) none (κ₁ := K (c, sIx (par h))) (κ₂ := K (nxt c, rIx (par (h + 1))))
    (r₁ := h / 2) (r₂ := h / 2) (d₁ := false) (d₂ := false) (c' := (nxt c : Thread nD τ)) (src := slotM (par h)) (dst := slotM (par (h + 1))) (sS := .dma (sS (par h))) (sem := .dma (rS (par (h + 1)))) (fd := fd) (F := reached ER (crCell c) h)
    (by rw [duties_send m ρ c h hh]; exact Finset.mem_singleton_self _) (by rw [duties_rcv m ρ (nxt c) h hh]; exact Finset.mem_singleton_self _)
    (2 * h + 2) 0 N rfl (amount_send m ρ c h _ false) (amount_rcv m ρ (nxt c) h _ false) (OO (h + 1) h c) (OO_send h h c hh) (W := W)
    (by rw [payload_send]; unfold sendPay slotX slotPts; exact BI.Entails.refl _)
    (by
      rw [payload_rcv]; unfold rcvPay slotX slotPts; rw [back_nxt, prv_nxt]
      refine sep_mono_left (Entails.of_eq ?_)
      exact pointsTo_congr (send_slot (par h) (par (h + 1)) fd (pkt m ρ (back h c))))) $$ [HX HN HO Ht1 Ht2]
  · isplitr; · iapply (inv_send m ρ K h c); iexact HR
    isplitr; · iapply (inv_rcv m ρ K h (nxt c)); iexact HR
    isplitl [HX]; · iexact HX
    isplitl [HN]
    · isplitl [HN]; · iexact HN
      iexact Hrc
    isplitl [HO]; · iexact HO
    isplitl [Ht1]; · iexact Ht1
    isplitr; · iexact Hr1
    isplitl [Ht2]; · iexact Ht2
    iexact HrN
  iintro ⟨Hc, HO⟩
  iapply H
  unfold S1 St At Ow
  isplitr; · iexact HR
  isplitl [HA1 HA2]
  · isplitl [HA1]
    · isplitl [HA1]; · iexact HA1
      iexact Hr1
    iexact HA2
  isplitl [HAr]; · iexact HAr
  isplitl [HAc]
  · isplitl [HAc]; · iexact HAc
    iexact Hrc
  isplitl [HtS]; · iexact HtS
  isplitl [HtC]; · iexact HtC
  isplitl [HcR]; · iexact HcR
  isplitl [HcC]; · iexact HcC
  isplitl [HO]; · iexists W; iexact HO
  isplitl [Hc] <;> iassumption

/-- The wait for the send of hop `h`: the source slot comes back. -/
theorem ring_sent {Q : α → sProp 𝕄} {Y : sProp 𝕄} (h : ℕ) (hh : h < 15) {s1 : DmaSem sig} {p q : Fin 2} (e1 : s1 = sS (par h))
    {hsrc hdst} {k : PUnit → Prog (TpuEff nD τ sig (Elt F) Λ₀ .tc) α} (H : S2 m ρ K c h Y ⊢ WP c (k ⟨⟩) Q) :
    S1 m ρ K c h Y ⊢ WP c (.op (.waitDma2 s1 (slotM p) (slotM q) hsrc hdst) k) Q := by
  subst e1
  unfold S1 St At Ow
  iintro ⟨#HR, ⟨⟨HA1, -⟩, HA2⟩, HAr, HAc, HtS, HtC, HcR, HcC, ⟨%W, HO⟩, Hc, HY⟩
  iapply (Rounds.wp_wait_rest_token 𝒱₀ ER (Rd m ρ) (c : Thread nD τ) none (κ := K (c, sIx (par h)))
      (wpE_waitDma2_eq (hsrc := hsrc) (hdst := hdst) 𝒱₀ (c : Thread nD τ) none Set.univ) (Set.mem_univ _) 0 (O := OO (h + 1) h c) (W := W) (R := h / 2) (m := 0) (T := ∅)
      ((Nat.zero_add _).trans (expect_send m ρ c h hh).symm)) $$ [Hc HO HA1]
  · isplitr; · iapply (inv_send m ρ K h c); iexact HR
    isplitl [Hc]; · iexact Hc
    isplitl [HO]; · iexact HO
    isplitr; · iapply (rec_wait m ρ K c _ 0 (h + 1) h (by decide) (by omega) (by omega)); iexact HR
    iexact HA1
  iintro ⟨HO, HA1, Hr, Hpay⟩
  ihave Hp := (Entails.of_eq (rest_send m ρ c h hh)) $$ Hpay
  unfold sendPay
  iapply H
  unfold S2 St At Ow
  rw [sendCell_two, show (h + 1 + 1) / 2 = h / 2 + 1 by omega]
  isplitr; · iexact HR
  isplitl [HA1 HA2 Hr]
  · isplitl [HA2]; · iexact HA2
    isplitl [HA1] <;> iassumption
  isplitl [HAr]; · iexact HAr
  isplitl [HAc]; · iexact HAc
  isplitl [HtS]; · iexact HtS
  isplitl [HtC]; · iexact HtC
  isplitl [HcR]; · iexact HcR
  isplitl [HcC]; · iexact HcC
  isplitl [HO]; · iexists _; iexact HO
  isplitl [Hp] <;> iassumption

/-- The wait for the arrival of hop `h`: the other slot comes, holding the packet. -/
theorem ring_rcvd {Q : α → sProp 𝕄} {Y : sProp 𝕄} (h : ℕ) (hh : h < 15) {s2 : DmaSem sig} {p q : Fin 2} (e1 : s2 = rS (par (h + 1)))
    {hsrc hdst} {k : PUnit → Prog (TpuEff nD τ sig (Elt F) Λ₀ .tc) α} (H : S3 m ρ K c h Y ⊢ WP c (k ⟨⟩) Q) :
    S2 m ρ K c h Y ⊢ WP c (.op (.waitDma2 s2 (slotM p) (slotM q) hsrc hdst) k) Q := by
  subst e1
  unfold S2 St At Ow
  rw [CrdR_split c hh]
  iintro ⟨#HR, HAs, ⟨⟨HA1, -⟩, HA2⟩, HAc, HtS, HtC, ⟨Hc, HcR⟩, HcC, ⟨%W, HO⟩, HX, HY⟩
  iapply (Rounds.wp_wait_rest_token 𝒱₀ ER (Rd m ρ) (c : Thread nD τ) none (κ := K (c, rIx (par (h + 1))))
      (wpE_waitDma2_eq (hsrc := hsrc) (hdst := hdst) 𝒱₀ (c : Thread nD τ) none Set.univ) (Set.mem_univ _) (2 * h + 2) (O := OO (h + 1) h c) (W := W) (R := h / 2) (m := 0) (T := ∅)
      ((Nat.zero_add _).trans (expect_rcv m ρ c h hh).symm)) $$ [Hc HO HA1]
  · isplitr; · iapply (inv_rcv m ρ K h c); iexact HR
    isplitl [Hc]; · iexact Hc
    isplitl [HO]; · iexact HO
    isplitr; · iapply (rec_wait m ρ K c _ (2 * h + 2) (h + 1) h (by show _ < 40; omega) (by omega) (by omega)); iexact HR
    iexact HA1
  iintro ⟨HO, HA1, Hr, Hpay⟩
  ihave Hp := (Entails.of_eq (rest_rcv m ρ c h hh)) $$ Hpay
  unfold rcvPay
  icases Hp with ⟨Hp, Hrc⟩
  iapply H
  unfold S3 St At Ow
  rw [rcvCell_two, show (h + 1 + 1) / 2 = h / 2 + 1 by omega]
  isplitr; · iexact HR
  isplitl [HAs]; · iexact HAs
  isplitl [HA1 HA2 Hr]
  · isplitl [HA2]; · iexact HA2
    isplitl [HA1] <;> iassumption
  isplitl [HAc]; · iexact HAc
  isplitl [HtS]; · iexact HtS
  isplitl [HtC]; · iexact HtC
  isplitl [HcR]; · iexact HcR
  isplitl [HcC]; · iexact HcC
  isplitl [HO]; · iexists _; iexact HO
  isplitl [Hp]; · iexact Hp
  isplitl [Hrc HX]
  · isplitl [Hrc] <;> iassumption
  iexact HY

/-- The credit of hop `h`, given to the left neighbour: the slot just sent from may be overwritten. -/
theorem ring_give {Q : α → sProp 𝕄} {Y : sProp 𝕄} (h : ℕ) (hh : h < 14) {d : Dev nD} (hn : d = prv c) {s : Sem sig} (e1 : s = crS)
    {n : ℤ} (hn1 : n = 1) {k : PUnit → Prog (TpuEff nD τ sig (Elt F) Λ₀ .tc) α} (H : S4 m ρ K c h Y ⊢ WP c (k ⟨⟩) Q) :
    S3 m ρ K c h Y ⊢ WP c (.op (.semSignal (d, Proc.tc) s n) k) Q := by
  subst e1 hn1
  subst hn
  unfold S3 St At Ow
  rw [TokC_split c hh]
  iintro ⟨#HR, HAs, ⟨⟨HA1, #Hr1⟩, HA2⟩, HAc, HtS, ⟨Ht, HtC⟩, HcR, HcC, ⟨%W, HO⟩, HX, ⟨#Hrc, HZ⟩, HY⟩
  iapply (Rounds.wp_signal 𝒱₀ ER (Rd m ρ) (c : Thread nD τ) none (dst := (prv c : Thread nD τ)) (κ := K (prv c, 1)) (r := h)
      (d := false) (by rw [duties_cr m ρ _ h hh]; exact Finset.mem_singleton_self _) ((amount_cr m ρ (prv c) h false).trans (by decide)) (2 * h + 3)
      (OO (h + 1) (h + 1) c) (OO_cr (h + 1) h c hh)) $$ [HO Ht HZ]
  · isplitr; · iapply (inv_cr m ρ K (prv c)); iexact HR
    isplitl [HO]; · iexact HO
    isplitl [Ht]; · iexact Ht
    isplitl [HZ]
    · rw [payload_cr]; unfold crPay; rw [nxt_prv]
      isplitl [HZ]; · iapply (slotX_any c (par h)); iexact HZ
      iexact Hr1
    iexact Hrc
  iintro HO
  iapply H
  unfold S4 St At Ow
  isplitr; · iexact HR
  isplitl [HAs]; · iexact HAs
  isplitl [HA1 HA2]
  · isplitl [HA1]
    · isplitl [HA1]; · iexact HA1
      iexact Hr1
    iexact HA2
  isplitl [HAc]; · iexact HAc
  isplitl [HtS]; · iexact HtS
  isplitl [HtC]; · iexact HtC
  isplitl [HcR]; · iexact HcR
  isplitl [HcC]; · iexact HcC
  isplitl [HO]; · iexists _; iexact HO
  isplitl [HX] <;> iassumption

/-- The wait for the right neighbour's credit of hop `h`: the next hop may be sent. -/
theorem ring_take {Q : α → sProp 𝕄} {Y : sProp 𝕄} (h : ℕ) (hh : h < 14) {s : Sem sig} (e1 : s = crS) {n : ℤ} (hn1 : n = 1)
    {k : PUnit → Prog (TpuEff nD τ sig (Elt F) Λ₀ .tc) α} (H : S0 m ρ K c (h + 1) Y ⊢ WP c (k ⟨⟩) Q) :
    S4 m ρ K c h Y ⊢ WP c (.op (.semWait s n) k) Q := by
  subst e1 hn1
  unfold S4 St At Ow
  rw [CrdC_split c hh]
  iintro ⟨#HR, HAs, HAr, ⟨HA1, -⟩, HtS, HtC, HcR, ⟨Hc, HcC⟩, ⟨%W, HO⟩, HX, HY⟩
  iapply (Rounds.wp_wait_rest_token 𝒱₀ ER (Rd m ρ) (c : Thread nD τ) none (κ := K (c, 1))
      (wpE_semWait_eq 𝒱₀ (c : Thread nD τ) none Set.univ) (Set.mem_univ _) (2 * h + 3) (O := OO (h + 1) (h + 1) c) (W := W) (R := h) (m := 0) (T := ∅)
      (by rw [expect_cr m ρ c h hh])) $$ [Hc HO HA1]
  · isplitr; · iapply (inv_cr m ρ K c); iexact HR
    isplitl [Hc]; · iexact Hc
    isplitl [HO]; · iexact HO
    isplitr; · iapply (rec_wait m ρ K c _ (2 * h + 3) (h + 1) (h + 1) (by show _ < 40; omega) (by omega) (by omega)); iexact HR
    iexact HA1
  iintro ⟨HO, HA1, Hr, Hpay⟩
  ihave Hp := (Entails.of_eq (rest_cr m ρ c h hh)) $$ Hpay
  unfold crPay
  icases Hp with ⟨Hp, Hrc⟩
  iapply H
  unfold S0 St At Ow
  rw [par_add_two h]
  isplitr; · iexact HR
  isplitl [HAs]; · iexact HAs
  isplitl [HAr]; · iexact HAr
  isplitl [HA1 Hr]
  · isplitl [HA1] <;> iassumption
  isplitl [HtS]; · iexact HtS
  isplitl [HtC]; · iexact HtC
  isplitl [HcR]; · iexact HcR
  isplitl [HcC]; · iexact HcC
  isplitl [HO]; · iexists _; iexact HO
  isplitl [HX]; · iexact HX
  isplitl [Hp Hrc]
  · isplitl [Hp] <;> iassumption
  iexact HY

end Steps

end Cert.Attn

end
-- ==== Proof.OwnParts.lean ====
/-
# The device's own attention sums: the kernel's parts

The operation rules at the batch and head that an operation's offsets name, and every printed part of the kernel that
computes the device's own sums, taken through them.
-/
module

public import proofs.«01_k».proof.Proof.Own

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- Two lists of four offsets with equal entries are equal. -/
theorem vec4 {a b d e a' b' d' e' : ℕ} (h : a = a') (h₁ : b = b') (h₂ : d = d') (h₃ : e = e') : (![a, b, d, e] : Fin 4 → ℕ) = ![a', b', d', e'] := by rw [h, h₁, h₂, h₃]

/-- Two pairs of offsets with equal entries are equal. -/
theorem vec2 {a b a' b' : ℕ} (h : a = a') (h' : b = b') : (![a, b] : Fin 2 → ℕ) = ![a', b'] := by rw [h, h']

/-! ## The kernel's parts that compute the device's own sums

One theorem for each printed part: from the sums stored before it to the sums stored after it. -/

section Parts
variable {m ρ} {α : Type} {c : Dev nD}

set_option maxRecDepth 65536 in
set_option maxHeartbeats 4000000 in
/-- Part 2: from 0 steps stored to 3. -/
theorem part2 {Q : α → sProp 𝕄} {R : sProp 𝕄} (k : (FVec F S256x1 .f32) → Prog (TpuEff nD τ sig (Elt F) Λ₀ .tc) α)
    (H : OS m ρ c 3 R ⊢ WP c (k (k0_pay7 (qB m ρ c 0 1) (kB m ρ c 0 1))) Q) :
    OS m ρ c 0 R ⊢ WP c (k0_part2 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (qB m ρ c 0 0) >>= k) Q := by
  rw [k0_part2_eq_skeleton]; unfold k0_part2_skel
  simp only [Prog.lift, Prog.bind_op, Prog.bind_ret, Prog.pure_eq_ret]
  refine own_k 0 0 (vec4 rfl rfl rfl rfl) ?_
  refine own_v 0 0 (vec4 rfl rfl rfl rfl) ?_
  refine own_dead fun _ => ?_
  refine own_o 0 0 (vec2 rfl rfl) (by decide) rfl ?_
  refine own_dead fun _ => ?_
  refine own_l 0 0 (vec2 rfl rfl) (by decide) rfl ?_
  refine own_q 0 1 (vec2 rfl rfl) ?_
  refine own_k 0 1 (vec4 rfl rfl rfl rfl) ?_
  refine own_v 0 1 (vec4 rfl rfl rfl rfl) ?_
  refine own_dead fun _ => ?_
  refine own_o 0 1 (vec2 rfl rfl) (by decide) rfl ?_
  exact H

set_option maxRecDepth 65536 in
set_option maxHeartbeats 4000000 in
/-- Part 3: from 3 steps stored to 6. -/
theorem part3 {Q : α → sProp 𝕄} {R : sProp 𝕄} (k : (Σ' (v82 : FVec F S256x1 .f32), FVec F S256x1024 .bf16) → Prog (TpuEff nD τ sig (Elt F) Λ₀ .tc) α)
    (H : OS m ρ c 6 R ⊢ WP c (k ⟨k0_pay14 (qB m ρ c 0 3) (kB m ρ c 0 3), k0_pay15 (qB m ρ c 0 3) (kB m ρ c 0 3)⟩) Q) :
    OS m ρ c 3 R ⊢ WP c (k0_part3 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay7 (qB m ρ c 0 1) (kB m ρ c 0 1)) >>= k) Q := by
  rw [k0_part3_eq_skeleton]; unfold k0_part3_skel
  simp only [Prog.lift, Prog.bind_op, Prog.bind_ret, Prog.pure_eq_ret]
  refine own_dead fun _ => ?_
  refine own_l 0 1 (vec2 rfl rfl) (by decide) rfl ?_
  refine own_q 0 2 (vec2 rfl rfl) ?_
  refine own_k 0 2 (vec4 rfl rfl rfl rfl) ?_
  refine own_v 0 2 (vec4 rfl rfl rfl rfl) ?_
  refine own_dead fun _ => ?_
  refine own_o 0 2 (vec2 rfl rfl) (by decide) rfl ?_
  refine own_dead fun _ => ?_
  refine own_l 0 2 (vec2 rfl rfl) (by decide) rfl ?_
  refine own_q 0 3 (vec2 rfl rfl) ?_
  refine own_k 0 3 (vec4 rfl rfl rfl rfl) ?_
  exact H

set_option maxRecDepth 65536 in
set_option maxHeartbeats 4000000 in
/-- Part 4: from 6 steps stored to 10. -/
theorem part4 {Q : α → sProp 𝕄} {R : sProp 𝕄} (k : (Vec F S256x128 .bf16) → Prog (TpuEff nD τ sig (Elt F) Λ₀ .tc) α)
    (H : OS m ρ c 10 R ⊢ WP c (k (qB m ρ c 0 5)) Q) :
    OS m ρ c 6 R ⊢ WP c (k0_part4 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay14 (qB m ρ c 0 3) (kB m ρ c 0 3)) (k0_pay15 (qB m ρ c 0 3) (kB m ρ c 0 3)) >>= k) Q := by
  rw [k0_part4_eq_skeleton]; unfold k0_part4_skel
  simp only [Prog.lift, Prog.bind_op, Prog.bind_ret, Prog.pure_eq_ret]
  refine own_v 0 3 (vec4 rfl rfl rfl rfl) ?_
  refine own_dead fun _ => ?_
  refine own_o 0 3 (vec2 rfl rfl) (by decide) rfl ?_
  refine own_dead fun _ => ?_
  refine own_l 0 3 (vec2 rfl rfl) (by decide) rfl ?_
  refine own_q 0 4 (vec2 rfl rfl) ?_
  refine own_k 0 4 (vec4 rfl rfl rfl rfl) ?_
  refine own_v 0 4 (vec4 rfl rfl rfl rfl) ?_
  refine own_dead fun _ => ?_
  refine own_o 0 4 (vec2 rfl rfl) (by decide) rfl ?_
  refine own_dead fun _ => ?_
  refine own_l 0 4 (vec2 rfl rfl) (by decide) rfl ?_
  refine own_q 0 5 (vec2 rfl rfl) ?_
  exact H

set_option maxRecDepth 65536 in
set_option maxHeartbeats 4000000 in
/-- Part 5: from 10 steps stored to 13. -/
theorem part5 {Q : α → sProp 𝕄} {R : sProp 𝕄} (k : (FVec F S256x1 .f32) → Prog (TpuEff nD τ sig (Elt F) Λ₀ .tc) α)
    (H : OS m ρ c 13 R ⊢ WP c (k (k0_pay25 (qB m ρ c 0 6) (kB m ρ c 0 6))) Q) :
    OS m ρ c 10 R ⊢ WP c (k0_part5 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (qB m ρ c 0 5) >>= k) Q := by
  rw [k0_part5_eq_skeleton]; unfold k0_part5_skel
  simp only [Prog.lift, Prog.bind_op, Prog.bind_ret, Prog.pure_eq_ret]
  refine own_k 0 5 (vec4 rfl rfl rfl rfl) ?_
  refine own_v 0 5 (vec4 rfl rfl rfl rfl) ?_
  refine own_dead fun _ => ?_
  refine own_o 0 5 (vec2 rfl rfl) (by decide) rfl ?_
  refine own_dead fun _ => ?_
  refine own_l 0 5 (vec2 rfl rfl) (by decide) rfl ?_
  refine own_q 0 6 (vec2 rfl rfl) ?_
  refine own_k 0 6 (vec4 rfl rfl rfl rfl) ?_
  refine own_v 0 6 (vec4 rfl rfl rfl rfl) ?_
  refine own_dead fun _ => ?_
  refine own_o 0 6 (vec2 rfl rfl) (by decide) rfl ?_
  exact H

set_option maxRecDepth 65536 in
set_option maxHeartbeats 4000000 in
/-- Part 6: from 13 steps stored to 17. -/
theorem part6 {Q : α → sProp 𝕄} {R : sProp 𝕄} (k : (Σ' (v165 : Vec F S256x128 .bf16) (v167 : FVec F S1024x128 .bf16), FVec F S256x1024 .f32) → Prog (TpuEff nD τ sig (Elt F) Λ₀ .tc) α)
    (H : OS m ρ c 17 R ⊢ WP c (k ⟨(qB m ρ c 1 0), k0_pay32 (kB m ρ c 1 0), (constant (F := F) S256x1024 .f32 0x00000000#32)⟩) Q) :
    OS m ρ c 13 R ⊢ WP c (k0_part6 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay25 (qB m ρ c 0 6) (kB m ρ c 0 6)) >>= k) Q := by
  rw [k0_part6_eq_skeleton]; unfold k0_part6_skel
  simp only [Prog.lift, Prog.bind_op, Prog.bind_ret, Prog.pure_eq_ret]
  refine own_dead fun _ => ?_
  refine own_l 0 6 (vec2 rfl rfl) (by decide) rfl ?_
  refine own_q 0 7 (vec2 rfl rfl) ?_
  refine own_k 0 7 (vec4 rfl rfl rfl rfl) ?_
  refine own_v 0 7 (vec4 rfl rfl rfl rfl) ?_
  refine own_dead fun _ => ?_
  refine own_o 0 7 (vec2 rfl rfl) (by decide) rfl ?_
  refine own_dead fun _ => ?_
  refine own_l 0 7 (vec2 rfl rfl) (by decide) rfl ?_
  refine own_dead fun _ => ?_
  refine own_z 0 (vec2 rfl rfl) (by decide) rfl ?_
  refine own_q 1 0 (vec2 rfl rfl) ?_
  refine own_k 1 0 (vec4 rfl rfl rfl rfl) ?_
  exact H

set_option maxRecDepth 65536 in
set_option maxHeartbeats 4000000 in
/-- Part 7: from 17 steps stored to 20. -/
theorem part7 {Q : α → sProp 𝕄} {R : sProp 𝕄} (k : (FVec F S256x1 .f32) → Prog (TpuEff nD τ sig (Elt F) Λ₀ .tc) α)
    (H : OS m ρ c 20 R ⊢ WP c (k (k0_pay37 (qB m ρ c 1 1) (kB m ρ c 1 1))) Q) :
    OS m ρ c 17 R ⊢ WP c (k0_part7 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (qB m ρ c 1 0) (k0_pay32 (kB m ρ c 1 0)) (constant (F := F) S256x1024 .f32 0x00000000#32) >>= k) Q := by
  rw [k0_part7_eq_skeleton]; unfold k0_part7_skel
  simp only [Prog.lift, Prog.bind_op, Prog.bind_ret, Prog.pure_eq_ret]
  refine own_v 1 0 (vec4 rfl rfl rfl rfl) ?_
  refine own_dead fun _ => ?_
  refine own_o 1 0 (vec2 rfl rfl) (by decide) rfl ?_
  refine own_dead fun _ => ?_
  refine own_l 1 0 (vec2 rfl rfl) (by decide) rfl ?_
  refine own_q 1 1 (vec2 rfl rfl) ?_
  refine own_k 1 1 (vec4 rfl rfl rfl rfl) ?_
  refine own_v 1 1 (vec4 rfl rfl rfl rfl) ?_
  refine own_dead fun _ => ?_
  refine own_o 1 1 (vec2 rfl rfl) (by decide) rfl ?_
  refine own_dead fun _ => ?_
  exact H

set_option maxRecDepth 65536 in
set_option maxHeartbeats 4000000 in
/-- Part 8: from 20 steps stored to 23. -/
theorem part8 {Q : α → sProp 𝕄} {R : sProp 𝕄} (k : (Σ' (v222 : FVec F S256x1 .f32) (v223 : FVec F S256x1024 .bf16), FVec F S1024x128 .bf16) → Prog (TpuEff nD τ sig (Elt F) Λ₀ .tc) α)
    (H : OS m ρ c 23 R ⊢ WP c (k ⟨k0_pay44 (qB m ρ c 1 3) (kB m ρ c 1 3), k0_pay45 (qB m ρ c 1 3) (kB m ρ c 1 3), k0_pay46 (vB m ρ c 1 3)⟩) Q) :
    OS m ρ c 20 R ⊢ WP c (k0_part8 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay37 (qB m ρ c 1 1) (kB m ρ c 1 1)) >>= k) Q := by
  rw [k0_part8_eq_skeleton]; unfold k0_part8_skel
  simp only [Prog.lift, Prog.bind_op, Prog.bind_ret, Prog.pure_eq_ret]
  refine own_l 1 1 (vec2 rfl rfl) (by decide) rfl ?_
  refine own_q 1 2 (vec2 rfl rfl) ?_
  refine own_k 1 2 (vec4 rfl rfl rfl rfl) ?_
  refine own_v 1 2 (vec4 rfl rfl rfl rfl) ?_
  refine own_dead fun _ => ?_
  refine own_o 1 2 (vec2 rfl rfl) (by decide) rfl ?_
  refine own_dead fun _ => ?_
  refine own_l 1 2 (vec2 rfl rfl) (by decide) rfl ?_
  refine own_q 1 3 (vec2 rfl rfl) ?_
  refine own_k 1 3 (vec4 rfl rfl rfl rfl) ?_
  refine own_v 1 3 (vec4 rfl rfl rfl rfl) ?_
  exact H

set_option maxRecDepth 65536 in
set_option maxHeartbeats 4000000 in
/-- Part 9: from 23 steps stored to 27. -/
theorem part9 {Q : α → sProp 𝕄} {R : sProp 𝕄} (k : (Σ' (v250 : Vec F S256x128 .bf16) (v252 : FVec F S1024x128 .bf16), FVec F S256x1024 .f32) → Prog (TpuEff nD τ sig (Elt F) Λ₀ .tc) α)
    (H : OS m ρ c 27 R ⊢ WP c (k ⟨(qB m ρ c 1 5), k0_pay52 (kB m ρ c 1 5), (constant (F := F) S256x1024 .f32 0x00000000#32)⟩) Q) :
    OS m ρ c 23 R ⊢ WP c (k0_part9 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay44 (qB m ρ c 1 3) (kB m ρ c 1 3)) (k0_pay45 (qB m ρ c 1 3) (kB m ρ c 1 3)) (k0_pay46 (vB m ρ c 1 3)) >>= k) Q := by
  rw [k0_part9_eq_skeleton]; unfold k0_part9_skel
  simp only [Prog.lift, Prog.bind_op, Prog.bind_ret, Prog.pure_eq_ret]
  refine own_dead fun _ => ?_
  refine own_o 1 3 (vec2 rfl rfl) (by decide) rfl ?_
  refine own_dead fun _ => ?_
  refine own_l 1 3 (vec2 rfl rfl) (by decide) rfl ?_
  refine own_q 1 4 (vec2 rfl rfl) ?_
  refine own_k 1 4 (vec4 rfl rfl rfl rfl) ?_
  refine own_v 1 4 (vec4 rfl rfl rfl rfl) ?_
  refine own_dead fun _ => ?_
  refine own_o 1 4 (vec2 rfl rfl) (by decide) rfl ?_
  refine own_dead fun _ => ?_
  refine own_l 1 4 (vec2 rfl rfl) (by decide) rfl ?_
  refine own_q 1 5 (vec2 rfl rfl) ?_
  refine own_k 1 5 (vec4 rfl rfl rfl rfl) ?_
  exact H

set_option maxRecDepth 65536 in
set_option maxHeartbeats 4000000 in
/-- Part 10: from 27 steps stored to 30. -/
theorem part10 {Q : α → sProp 𝕄} {R : sProp 𝕄} (k : (FVec F S256x1 .f32) → Prog (TpuEff nD τ sig (Elt F) Λ₀ .tc) α)
    (H : OS m ρ c 30 R ⊢ WP c (k (k0_pay57 (qB m ρ c 1 6) (kB m ρ c 1 6))) Q) :
    OS m ρ c 27 R ⊢ WP c (k0_part10 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (qB m ρ c 1 5) (k0_pay52 (kB m ρ c 1 5)) (constant (F := F) S256x1024 .f32 0x00000000#32) >>= k) Q := by
  rw [k0_part10_eq_skeleton]; unfold k0_part10_skel
  simp only [Prog.lift, Prog.bind_op, Prog.bind_ret, Prog.pure_eq_ret]
  refine own_v 1 5 (vec4 rfl rfl rfl rfl) ?_
  refine own_dead fun _ => ?_
  refine own_o 1 5 (vec2 rfl rfl) (by decide) rfl ?_
  refine own_dead fun _ => ?_
  refine own_l 1 5 (vec2 rfl rfl) (by decide) rfl ?_
  refine own_q 1 6 (vec2 rfl rfl) ?_
  refine own_k 1 6 (vec4 rfl rfl rfl rfl) ?_
  refine own_v 1 6 (vec4 rfl rfl rfl rfl) ?_
  refine own_dead fun _ => ?_
  refine own_o 1 6 (vec2 rfl rfl) (by decide) rfl ?_
  refine own_dead fun _ => ?_
  exact H

set_option maxRecDepth 65536 in
set_option maxHeartbeats 4000000 in
/-- Part 11: from 30 steps stored to 34. -/
theorem part11 {Q : α → sProp 𝕄} {R : sProp 𝕄} (k : (Σ' (v309 : FVec F S256x1024 .f32), FVec F S256 .f32) → Prog (TpuEff nD τ sig (Elt F) Λ₀ .tc) α)
    (H : OS m ρ c 34 R ⊢ WP c (k ⟨k0_pay64 (qB m ρ c 2 0) (kB m ρ c 2 0), k0_pay65 (qB m ρ c 2 0) (kB m ρ c 2 0)⟩) Q) :
    OS m ρ c 30 R ⊢ WP c (k0_part11 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay57 (qB m ρ c 1 6) (kB m ρ c 1 6)) >>= k) Q := by
  rw [k0_part11_eq_skeleton]; unfold k0_part11_skel
  simp only [Prog.lift, Prog.bind_op, Prog.bind_ret, Prog.pure_eq_ret]
  refine own_l 1 6 (vec2 rfl rfl) (by decide) rfl ?_
  refine own_q 1 7 (vec2 rfl rfl) ?_
  refine own_k 1 7 (vec4 rfl rfl rfl rfl) ?_
  refine own_v 1 7 (vec4 rfl rfl rfl rfl) ?_
  refine own_dead fun _ => ?_
  refine own_o 1 7 (vec2 rfl rfl) (by decide) rfl ?_
  refine own_dead fun _ => ?_
  refine own_l 1 7 (vec2 rfl rfl) (by decide) rfl ?_
  refine own_dead fun _ => ?_
  refine own_z 1 (vec2 rfl rfl) (by decide) rfl ?_
  refine own_q 2 0 (vec2 rfl rfl) ?_
  refine own_k 2 0 (vec4 rfl rfl rfl rfl) ?_
  exact H

set_option maxRecDepth 65536 in
set_option maxHeartbeats 4000000 in
/-- Part 12: from 34 steps stored to 38. -/
theorem part12 {Q : α → sProp 𝕄} {R : sProp 𝕄} (k : (PUnit) → Prog (TpuEff nD τ sig (Elt F) Λ₀ .tc) α)
    (H : OS m ρ c 38 R ⊢ WP c (k ⟨⟩) Q) :
    OS m ρ c 34 R ⊢ WP c (k0_part12 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay64 (qB m ρ c 2 0) (kB m ρ c 2 0)) (k0_pay65 (qB m ρ c 2 0) (kB m ρ c 2 0)) >>= k) Q := by
  rw [k0_part12_eq_skeleton]; unfold k0_part12_skel
  simp only [Prog.lift, Prog.bind_op, Prog.bind_ret, Prog.pure_eq_ret]
  refine own_v 2 0 (vec4 rfl rfl rfl rfl) ?_
  refine own_dead fun _ => ?_
  refine own_o 2 0 (vec2 rfl rfl) (by decide) rfl ?_
  refine own_dead fun _ => ?_
  refine own_l 2 0 (vec2 rfl rfl) (by decide) rfl ?_
  refine own_q 2 1 (vec2 rfl rfl) ?_
  refine own_k 2 1 (vec4 rfl rfl rfl rfl) ?_
  refine own_v 2 1 (vec4 rfl rfl rfl rfl) ?_
  refine own_dead fun _ => ?_
  refine own_o 2 1 (vec2 rfl rfl) (by decide) rfl ?_
  refine own_dead fun _ => ?_
  refine own_l 2 1 (vec2 rfl rfl) (by decide) rfl ?_
  exact H

set_option maxRecDepth 65536 in
set_option maxHeartbeats 4000000 in
/-- Part 13: from 38 steps stored to 40. -/
theorem part13 {Q : α → sProp 𝕄} {R : sProp 𝕄} (k : (Σ' (v362 : FVec F S256x1 .f32), FVec F S256x128 .f32) → Prog (TpuEff nD τ sig (Elt F) Λ₀ .tc) α)
    (H : OS m ρ c 40 R ⊢ WP c (k ⟨k0_pay75 (qB m ρ c 2 3) (kB m ρ c 2 3), k0_pay76 (qB m ρ c 2 3) (kB m ρ c 2 3) (vB m ρ c 2 3)⟩) Q) :
    OS m ρ c 38 R ⊢ WP c (k0_part13 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6  >>= k) Q := by
  rw [k0_part13_eq_skeleton]; unfold k0_part13_skel
  simp only [Prog.lift, Prog.bind_op, Prog.bind_ret, Prog.pure_eq_ret]
  refine own_q 2 2 (vec2 rfl rfl) ?_
  refine own_k 2 2 (vec4 rfl rfl rfl rfl) ?_
  refine own_v 2 2 (vec4 rfl rfl rfl rfl) ?_
  refine own_dead fun _ => ?_
  refine own_o 2 2 (vec2 rfl rfl) (by decide) rfl ?_
  refine own_dead fun _ => ?_
  refine own_l 2 2 (vec2 rfl rfl) (by decide) rfl ?_
  refine own_q 2 3 (vec2 rfl rfl) ?_
  refine own_k 2 3 (vec4 rfl rfl rfl rfl) ?_
  refine own_v 2 3 (vec4 rfl rfl rfl rfl) ?_
  exact H

set_option maxRecDepth 65536 in
set_option maxHeartbeats 4000000 in
/-- Part 14: from 40 steps stored to 44. -/
theorem part14 {Q : α → sProp 𝕄} {R : sProp 𝕄} (k : (Σ' (v394 : FVec F S256x1024 .f32), FVec F S256 .f32) → Prog (TpuEff nD τ sig (Elt F) Λ₀ .tc) α)
    (H : OS m ρ c 44 R ⊢ WP c (k ⟨k0_pay82 (qB m ρ c 2 5) (kB m ρ c 2 5), k0_pay83 (qB m ρ c 2 5) (kB m ρ c 2 5)⟩) Q) :
    OS m ρ c 40 R ⊢ WP c (k0_part14 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay75 (qB m ρ c 2 3) (kB m ρ c 2 3)) (k0_pay76 (qB m ρ c 2 3) (kB m ρ c 2 3) (vB m ρ c 2 3)) >>= k) Q := by
  rw [k0_part14_eq_skeleton]; unfold k0_part14_skel
  simp only [Prog.lift, Prog.bind_op, Prog.bind_ret, Prog.pure_eq_ret]
  refine own_dead fun _ => ?_
  refine own_o 2 3 (vec2 rfl rfl) (by decide) rfl ?_
  refine own_dead fun _ => ?_
  refine own_l 2 3 (vec2 rfl rfl) (by decide) rfl ?_
  refine own_q 2 4 (vec2 rfl rfl) ?_
  refine own_k 2 4 (vec4 rfl rfl rfl rfl) ?_
  refine own_v 2 4 (vec4 rfl rfl rfl rfl) ?_
  refine own_dead fun _ => ?_
  refine own_o 2 4 (vec2 rfl rfl) (by decide) rfl ?_
  refine own_dead fun _ => ?_
  refine own_l 2 4 (vec2 rfl rfl) (by decide) rfl ?_
  refine own_q 2 5 (vec2 rfl rfl) ?_
  refine own_k 2 5 (vec4 rfl rfl rfl rfl) ?_
  exact H

set_option maxRecDepth 65536 in
set_option maxHeartbeats 4000000 in
/-- Part 15: from 44 steps stored to 48. -/
theorem part15 {Q : α → sProp 𝕄} {R : sProp 𝕄} (k : (PUnit) → Prog (TpuEff nD τ sig (Elt F) Λ₀ .tc) α)
    (H : OS m ρ c 48 R ⊢ WP c (k ⟨⟩) Q) :
    OS m ρ c 44 R ⊢ WP c (k0_part15 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay82 (qB m ρ c 2 5) (kB m ρ c 2 5)) (k0_pay83 (qB m ρ c 2 5) (kB m ρ c 2 5)) >>= k) Q := by
  rw [k0_part15_eq_skeleton]; unfold k0_part15_skel
  simp only [Prog.lift, Prog.bind_op, Prog.bind_ret, Prog.pure_eq_ret]
  refine own_v 2 5 (vec4 rfl rfl rfl rfl) ?_
  refine own_dead fun _ => ?_
  refine own_o 2 5 (vec2 rfl rfl) (by decide) rfl ?_
  refine own_dead fun _ => ?_
  refine own_l 2 5 (vec2 rfl rfl) (by decide) rfl ?_
  refine own_q 2 6 (vec2 rfl rfl) ?_
  refine own_k 2 6 (vec4 rfl rfl rfl rfl) ?_
  refine own_v 2 6 (vec4 rfl rfl rfl rfl) ?_
  refine own_dead fun _ => ?_
  refine own_o 2 6 (vec2 rfl rfl) (by decide) rfl ?_
  refine own_dead fun _ => ?_
  refine own_l 2 6 (vec2 rfl rfl) (by decide) rfl ?_
  exact H

set_option maxRecDepth 65536 in
set_option maxHeartbeats 4000000 in
/-- Part 16: from 48 steps stored to 51. -/
theorem part16 {Q : α → sProp 𝕄} {R : sProp 𝕄} (k : (Σ' (v451 : FVec F S256x1 .f32), FVec F S256x1024 .bf16) → Prog (TpuEff nD τ sig (Elt F) Λ₀ .tc) α)
    (H : OS m ρ c 51 R ⊢ WP c (k ⟨k0_pay94 (qB m ρ c 3 0) (kB m ρ c 3 0), k0_pay95 (qB m ρ c 3 0) (kB m ρ c 3 0)⟩) Q) :
    OS m ρ c 48 R ⊢ WP c (k0_part16 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6  >>= k) Q := by
  rw [k0_part16_eq_skeleton]; unfold k0_part16_skel
  simp only [Prog.lift, Prog.bind_op, Prog.bind_ret, Prog.pure_eq_ret]
  refine own_q 2 7 (vec2 rfl rfl) ?_
  refine own_k 2 7 (vec4 rfl rfl rfl rfl) ?_
  refine own_v 2 7 (vec4 rfl rfl rfl rfl) ?_
  refine own_dead fun _ => ?_
  refine own_o 2 7 (vec2 rfl rfl) (by decide) rfl ?_
  refine own_dead fun _ => ?_
  refine own_l 2 7 (vec2 rfl rfl) (by decide) rfl ?_
  refine own_dead fun _ => ?_
  refine own_z 2 (vec2 rfl rfl) (by decide) rfl ?_
  refine own_q 3 0 (vec2 rfl rfl) ?_
  refine own_k 3 0 (vec4 rfl rfl rfl rfl) ?_
  exact H

set_option maxRecDepth 65536 in
set_option maxHeartbeats 4000000 in
/-- Part 17: from 51 steps stored to 55. -/
theorem part17 {Q : α → sProp 𝕄} {R : sProp 𝕄} (k : (Vec F S256x128 .bf16) → Prog (TpuEff nD τ sig (Elt F) Λ₀ .tc) α)
    (H : OS m ρ c 55 R ⊢ WP c (k (qB m ρ c 3 2)) Q) :
    OS m ρ c 51 R ⊢ WP c (k0_part17 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay94 (qB m ρ c 3 0) (kB m ρ c 3 0)) (k0_pay95 (qB m ρ c 3 0) (kB m ρ c 3 0)) >>= k) Q := by
  rw [k0_part17_eq_skeleton]; unfold k0_part17_skel
  simp only [Prog.lift, Prog.bind_op, Prog.bind_ret, Prog.pure_eq_ret]
  refine own_v 3 0 (vec4 rfl rfl rfl rfl) ?_
  refine own_dead fun _ => ?_
  refine own_o 3 0 (vec2 rfl rfl) (by decide) rfl ?_
  refine own_dead fun _ => ?_
  refine own_l 3 0 (vec2 rfl rfl) (by decide) rfl ?_
  refine own_q 3 1 (vec2 rfl rfl) ?_
  refine own_k 3 1 (vec4 rfl rfl rfl rfl) ?_
  refine own_v 3 1 (vec4 rfl rfl rfl rfl) ?_
  refine own_dead fun _ => ?_
  refine own_o 3 1 (vec2 rfl rfl) (by decide) rfl ?_
  refine own_dead fun _ => ?_
  refine own_l 3 1 (vec2 rfl rfl) (by decide) rfl ?_
  refine own_q 3 2 (vec2 rfl rfl) ?_
  exact H

set_option maxRecDepth 65536 in
set_option maxHeartbeats 4000000 in
/-- Part 18: from 55 steps stored to 58. -/
theorem part18 {Q : α → sProp 𝕄} {R : sProp 𝕄} (k : (FVec F S256x1 .f32) → Prog (TpuEff nD τ sig (Elt F) Λ₀ .tc) α)
    (H : OS m ρ c 58 R ⊢ WP c (k (k0_pay105 (qB m ρ c 3 3) (kB m ρ c 3 3))) Q) :
    OS m ρ c 55 R ⊢ WP c (k0_part18 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (qB m ρ c 3 2) >>= k) Q := by
  rw [k0_part18_eq_skeleton]; unfold k0_part18_skel
  simp only [Prog.lift, Prog.bind_op, Prog.bind_ret, Prog.pure_eq_ret]
  refine own_k 3 2 (vec4 rfl rfl rfl rfl) ?_
  refine own_v 3 2 (vec4 rfl rfl rfl rfl) ?_
  refine own_dead fun _ => ?_
  refine own_o 3 2 (vec2 rfl rfl) (by decide) rfl ?_
  refine own_dead fun _ => ?_
  refine own_l 3 2 (vec2 rfl rfl) (by decide) rfl ?_
  refine own_q 3 3 (vec2 rfl rfl) ?_
  refine own_k 3 3 (vec4 rfl rfl rfl rfl) ?_
  refine own_v 3 3 (vec4 rfl rfl rfl rfl) ?_
  refine own_dead fun _ => ?_
  refine own_o 3 3 (vec2 rfl rfl) (by decide) rfl ?_
  exact H

set_option maxRecDepth 65536 in
set_option maxHeartbeats 4000000 in
/-- Part 19: from 58 steps stored to 61. -/
theorem part19 {Q : α → sProp 𝕄} {R : sProp 𝕄} (k : (Σ' (v536 : FVec F S256x1 .f32), FVec F S256x1024 .bf16) → Prog (TpuEff nD τ sig (Elt F) Λ₀ .tc) α)
    (H : OS m ρ c 61 R ⊢ WP c (k ⟨k0_pay112 (qB m ρ c 3 5) (kB m ρ c 3 5), k0_pay113 (qB m ρ c 3 5) (kB m ρ c 3 5)⟩) Q) :
    OS m ρ c 58 R ⊢ WP c (k0_part19 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay105 (qB m ρ c 3 3) (kB m ρ c 3 3)) >>= k) Q := by
  rw [k0_part19_eq_skeleton]; unfold k0_part19_skel
  simp only [Prog.lift, Prog.bind_op, Prog.bind_ret, Prog.pure_eq_ret]
  refine own_dead fun _ => ?_
  refine own_l 3 3 (vec2 rfl rfl) (by decide) rfl ?_
  refine own_q 3 4 (vec2 rfl rfl) ?_
  refine own_k 3 4 (vec4 rfl rfl rfl rfl) ?_
  refine own_v 3 4 (vec4 rfl rfl rfl rfl) ?_
  refine own_dead fun _ => ?_
  refine own_o 3 4 (vec2 rfl rfl) (by decide) rfl ?_
  refine own_dead fun _ => ?_
  refine own_l 3 4 (vec2 rfl rfl) (by decide) rfl ?_
  refine own_q 3 5 (vec2 rfl rfl) ?_
  refine own_k 3 5 (vec4 rfl rfl rfl rfl) ?_
  exact H

set_option maxRecDepth 65536 in
set_option maxHeartbeats 4000000 in
/-- Part 20: from 61 steps stored to 65. -/
theorem part20 {Q : α → sProp 𝕄} {R : sProp 𝕄} (k : (Vec F S256x128 .bf16) → Prog (TpuEff nD τ sig (Elt F) Λ₀ .tc) α)
    (H : OS m ρ c 65 R ⊢ WP c (k (qB m ρ c 3 7)) Q) :
    OS m ρ c 61 R ⊢ WP c (k0_part20 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (k0_pay112 (qB m ρ c 3 5) (kB m ρ c 3 5)) (k0_pay113 (qB m ρ c 3 5) (kB m ρ c 3 5)) >>= k) Q := by
  rw [k0_part20_eq_skeleton]; unfold k0_part20_skel
  simp only [Prog.lift, Prog.bind_op, Prog.bind_ret, Prog.pure_eq_ret]
  refine own_v 3 5 (vec4 rfl rfl rfl rfl) ?_
  refine own_dead fun _ => ?_
  refine own_o 3 5 (vec2 rfl rfl) (by decide) rfl ?_
  refine own_dead fun _ => ?_
  refine own_l 3 5 (vec2 rfl rfl) (by decide) rfl ?_
  refine own_q 3 6 (vec2 rfl rfl) ?_
  refine own_k 3 6 (vec4 rfl rfl rfl rfl) ?_
  refine own_v 3 6 (vec4 rfl rfl rfl rfl) ?_
  refine own_dead fun _ => ?_
  refine own_o 3 6 (vec2 rfl rfl) (by decide) rfl ?_
  refine own_dead fun _ => ?_
  refine own_l 3 6 (vec2 rfl rfl) (by decide) rfl ?_
  refine own_q 3 7 (vec2 rfl rfl) ?_
  exact H

end Parts

end Cert.Attn

end
-- ==== Proof.RingParts.lean ====
/-
# The ring: the kernel's parts

The loads and stores of a hop, and every printed part of the kernel that makes the fifteen hops of the ring, taken
through the rules of a hop.
-/
module

public import proofs.«01_k».proof.Proof.Ring
public import proofs.«01_k».proof.Proof.OwnParts

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- Two triples of offsets with equal entries are equal. -/
theorem vec3 {a b d a' b' d' : ℕ} (h : a = a') (h₁ : b = b') (h₂ : d = d') : (![a, b, d] : Fin 3 → ℕ) = ![a', b', d'] := by rw [h, h₁, h₂]
theorem off2 {a b : ℕ} (h : a = 0) (h₁ : b = 0) : (![a, b] : Fin 2 → ℕ) = fun _ => 0 := by
  subst h h₁; funext i; match i with | 0 => rfl | 1 => rfl
theorem off3 {a b d : ℕ} (h : a = 0) (h₁ : b = 0) (h₂ : d = 0) : (![a, b, d] : Fin 3 → ℕ) = fun _ => 0 := by
  subst h h₁ h₂; funext i; match i with | 0 => rfl | 1 => rfl | 2 => rfl

/-! ## The loads and stores of a hop -/

section Mem
variable {m ρ} {α : Type} {c : Dev nD} {K : Dev nD × Fin 6 → ℕ}

/-- The elements a load of slot `p` reads are the slot's. -/
theorem slot_load_set (p : Fin 2) {off : Fin 3 → ℕ} {inb} (hoff : off = ![p.val, 0, 0]) :
    (Memref.whole cc0_scratch2).view.setOn (Rect.unit (s := S2x1024x1152) off S1x1024x1152.size inb).toLoadRect.set ⊆ slotSet p := by
  subst hoff
  rw [slotSet_eq]
  intro i hi
  rw [View.setOn, Finset.mem_map] at hi
  obtain ⟨x, hx, rfl⟩ := hi
  exact hx

theorem slot_store_set (p : Fin 2) {off : Fin 3 → ℕ} {inb} (hoff : off = ![p.val, 0, 0]) :
    ((Memref.whole cc0_scratch2).access (Rect.unit (s := S2x1024x1152) off S1x1024x1152.size inb)).setOn Finset.univ ⊆ slotSet p := by
  subst hoff
  rw [slotSet_eq, View.setOn_univ]
  show ((View.whole cc0_scratch2).slice (slotR p)).set ⊆ _
  rw [View.set_slice_whole]

/-- Loading slot `p` that holds `X`, in any state that contains it. -/
theorem slot_load {Q : α → sProp 𝕄} {P R : sProp 𝕄} (p : Fin 2) {X : S1x1024x1152.Idx → Elt F .bf16} {off : Fin 3 → ℕ} {inb hl}
    {k : (S1x1024x1152.Idx → Elt F .bf16) → Prog (TpuEff nD τ sig (Elt F) Λ₀ .tc) α} (hoff : off = ![p.val, 0, 0])
    (hin : P ⊢ iprop(slotX c p X ∗ R)) (hout : iprop(slotX c p X ∗ R) ⊢ WP c (k X) Q) :
    P ⊢ WP c (.op (.load (Memref.whole cc0_scratch2) (Rect.unit (s := S2x1024x1152) off S1x1024x1152.size inb).toLoadRect hl) k) Q := by
  refine etrans hin ?_
  have hs := slot_load_set p (inb := inb) hoff
  have hv : (Memref.whole cc0_scratch2).view.readAt (Elt F) (Rect.unit (s := S2x1024x1152) off S1x1024x1152.size inb).toLoadRect (commBuf X) = X := by
    subst hoff; exact load_slot p X
  unfold slotX slotPts at hout ⊢
  iintro ⟨H, HR⟩
  iapply (wp_load 𝒱₀ (c : Thread nD τ) none Set.univ (m := Memref.whole cc0_scratch2) hs) $$ H
  rw [hv]
  iintro H
  iapply hout
  isplitl [H] <;> iassumption

/-- A load of slot `p` of which nothing is read. -/
theorem slot_dead {Q : α → sProp 𝕄} {P R : sProp 𝕄} (p : Fin 2) {off : Fin 3 → ℕ} {inb hl}
    {k : (S1x1024x1152.Idx → Elt F .bf16) → Prog (TpuEff nD τ sig (Elt F) Λ₀ .tc) α} (hoff : off = ![p.val, 0, 0])
    (hin : P ⊢ iprop(slotAny c p ∗ R)) (hout : ∀ X, iprop(slotAny c p ∗ R) ⊢ WP c (k X) Q) :
    P ⊢ WP c (.op (.load (Memref.whole cc0_scratch2) (Rect.unit (s := S2x1024x1152) off S1x1024x1152.size inb).toLoadRect hl) k) Q := by
  refine etrans hin ?_
  have hs := slot_load_set p (inb := inb) hoff
  unfold slotAny slotPts at hout ⊢
  iintro ⟨⟨%f, H⟩, HR⟩
  iapply (wp_load 𝒱₀ (c : Thread nD τ) none Set.univ (m := Memref.whole cc0_scratch2) hs) $$ H
  iintro H
  iapply (hout _)
  isplitl [H]; · iexists f; iexact H
  iexact HR

/-- Storing `X` into slot `p`. -/
theorem slot_store {Q : α → sProp 𝕄} {P R : sProp 𝕄} (p : Fin 2) {X : S1x1024x1152.Idx → Elt F .bf16} {off : Fin 3 → ℕ} {inb hx hm}
    {k : PUnit → Prog (TpuEff nD τ sig (Elt F) Λ₀ .tc) α} (hoff : off = ![p.val, 0, 0])
    (hin : P ⊢ iprop(slotAny c p ∗ R)) (hout : iprop(slotX c p X ∗ R) ⊢ WP c (k ⟨⟩) Q) :
    P ⊢ WP c (.op (.store (Memref.whole cc0_scratch2) (Rect.unit (s := S2x1024x1152) off S1x1024x1152.size inb) X Finset.univ hx hm) k) Q := by
  refine etrans hin ?_
  have hs := slot_store_set p (inb := inb) hoff
  have hv : ∀ f, (slotPts c p (((Memref.whole cc0_scratch2).access (Rect.unit (s := S2x1024x1152) off S1x1024x1152.size inb)).write (Elt F) f X Finset.univ) : sProp 𝕄) = slotX c p X := by
    intro f; subst hoff; unfold slotX slotPts
    exact pointsTo_congr (store_slot p f X)
  unfold slotAny
  iintro ⟨⟨%f, H⟩, HR⟩
  rw [← hv f] at hout
  unfold slotPts at hout ⊢
  iapply (wp_store 𝒱₀ (c : Thread nD τ) none Set.univ (m := Memref.whole cc0_scratch2) (Mk := Finset.univ) hs) $$ H
  iintro H
  iapply hout
  isplitl [H] <;> iassumption

/-- Loading the accumulator during a hop. -/
theorem ring_lacc {Q : α → sProp 𝕄} {R : sProp 𝕄} {h : ℕ} {f : S1024x1152.Idx → Elt F .f32} {off : Fin 2 → ℕ} {inb hl}
    {k : (S1024x1152.Idx → Elt F .f32) → Prog (TpuEff nD τ sig (Elt F) Λ₀ .tc) α} (hoff : off = fun _ => 0)
    (H : S3 m ρ K c h iprop(whole c cc0_scratch1 f ∗ R) ⊢ WP c (k f) Q) :
    S3 m ρ K c h iprop(whole c cc0_scratch1 f ∗ R)
      ⊢ WP c (.op (.load (Memref.whole cc0_scratch1) (Rect.unit (s := S1024x1152) off S1024x1152.size inb).toLoadRect hl) k) Q := by
  refine load_of (f := f) (R := S3 m ρ K c h R) ?_ ?_
  · unfold S3 St
    iintro ⟨H1, H2, H3, H4, H5, H6, H7, H8, H9, HX, HZ, HY, HR⟩
    isplitl [HY]; · iexact HY
    iframe
  · have e : (Memref.whole cc0_scratch1).view.readAt (Elt F) (Rect.unit (s := S1024x1152) off S1024x1152.size inb).toLoadRect f = f :=
      Memref.readAt_unit_zero (Elt F) cc0_scratch1 hoff inb f
    rw [e]
    refine etrans ?_ H
    unfold S3 St
    iintro ⟨HY, H1, H2, H3, H4, H5, H6, H7, H8, H9, HX, HZ, HR⟩
    iframe

/-- Storing the accumulator during a hop. -/
theorem ring_sacc {Q : α → sProp 𝕄} {R : sProp 𝕄} {f w : S1024x1152.Idx → Elt F .f32} (h : ℕ) {off : Fin 2 → ℕ} {inb hx hm}
    {k : PUnit → Prog (TpuEff nD τ sig (Elt F) Λ₀ .tc) α} (hoff : off = fun _ => 0)
    (hw : w = k0_pay124 (accAt m ρ c h) (pkt m ρ (back (h + 1) c)))
    (H : S3 m ρ K c h iprop(whole c cc0_scratch1 (accAt m ρ c (h + 1)) ∗ R) ⊢ WP c (k ⟨⟩) Q) :
    S3 m ρ K c h iprop(whole c cc0_scratch1 f ∗ R)
      ⊢ WP c (.op (.store (Memref.whole cc0_scratch1) (Rect.unit (s := S1024x1152) off S1024x1152.size inb) w Finset.univ hx hm) k) Q := by
  refine store_of (f := f) (R := S3 m ρ K c h R) ?_ ?_
  · unfold S3 St
    iintro ⟨H1, H2, H3, H4, H5, H6, H7, H8, H9, HX, HZ, HY, HR⟩
    isplitl [HY]; · iexact HY
    iframe
  · have e : ((Memref.whole cc0_scratch1).access (Rect.unit (s := S1024x1152) off S1024x1152.size inb)).write (Elt F) f w Finset.univ = w :=
      Memref.write_access_unit_zero_univ (Elt F) cc0_scratch1 hoff inb f w
    have e2 : w = accAt m ρ c (h + 1) := hw
    rw [e2] at e
    rw [e2, e]
    refine etrans ?_ H
    unfold S3 St
    iintro ⟨HY, H1, H2, H3, H4, H5, H6, H7, H8, H9, HX, HZ, HR⟩
    iframe

/-- A column of sums of the total, read. -/
theorem read_totL (b : Fin 4) (h : Fin 8) {off : Fin 2 → ℕ} {inb} (hoff : off = ![256 * b.val, 1024 + h.val]) :
    (Memref.whole cc0_scratch1).view.readAt (Elt F) (Rect.unit (s := S1024x1152) off S256x1.size inb).toLoadRect (tot m ρ c) = totL m ρ c b h := by
  subst hoff
  rw [View.readAt_rect]
  funext x
  show tot m ρ c _ = tot m ρ c _
  refine congrArg (tot m ρ c) (funext fun a => Fin.ext ?_)
  refine (ValueKit.view_emb_slice_whole_unit_val cc0_scratch1 _ _ inb x a).trans ?_
  have h1 : (x 1).val < 1 := (x 1).isLt
  match a with
  | ⟨0, _⟩ => rfl
  | ⟨1, _⟩ => show 1024 + h.val + (x 1).val = 1024 + h.val; omega

/-- Loading a column of sums of the total after the last hop. -/
theorem ring_lcol {Q : α → sProp 𝕄} {R : sProp 𝕄} {n : ℕ} (b : Fin 4) (h : Fin 8) {off : Fin 2 → ℕ} {inb hl}
    {k : (S256x1.Idx → Elt F .f32) → Prog (TpuEff nD τ sig (Elt F) Λ₀ .tc) α} (hoff : off = ![256 * b.val, 1024 + h.val])
    (H : S3 m ρ K c n iprop(whole c cc0_scratch1 (tot m ρ c) ∗ R) ⊢ WP c (k (totL m ρ c b h)) Q) :
    S3 m ρ K c n iprop(whole c cc0_scratch1 (tot m ρ c) ∗ R)
      ⊢ WP c (.op (.load (Memref.whole cc0_scratch1) (Rect.unit (s := S1024x1152) off S256x1.size inb).toLoadRect hl) k) Q := by
  refine load_of (f := tot m ρ c) (R := S3 m ρ K c n R) ?_ ?_
  · unfold S3 St
    iintro ⟨H1, H2, H3, H4, H5, H6, H7, H8, H9, HX, HZ, HY, HR⟩
    isplitl [HY]; · iexact HY
    iframe
  · rw [read_totL b h hoff]
    refine etrans ?_ H
    unfold S3 St
    iintro ⟨HY, H1, H2, H3, H4, H5, H6, H7, H8, H9, HX, HZ, HR⟩
    iframe

/-- Loading the slot that has just arrived. -/
theorem ring_lslot {Q : α → sProp 𝕄} {Y : sProp 𝕄} (h : ℕ) {off : Fin 3 → ℕ} {inb hl}
    {k : (S1x1024x1152.Idx → Elt F .bf16) → Prog (TpuEff nD τ sig (Elt F) Λ₀ .tc) α} (hoff : off = ![(par (h + 1)).val, 0, 0])
    (H : S3 m ρ K c h Y ⊢ WP c (k (pkt m ρ (back (h + 1) c))) Q) :
    S3 m ρ K c h Y ⊢ WP c (.op (.load (Memref.whole cc0_scratch2) (Rect.unit (s := S2x1024x1152) off S1x1024x1152.size inb).toLoadRect hl) k) Q := by
  refine slot_load (par (h + 1)) (X := pkt m ρ (back (h + 1) c))
    (R := St m ρ K c (h + 1) (h + 1) (h + 1) h h iprop((reached ER (crCell (prv c)) h ∗ slotX c (par h) (pkt m ρ (back h c))) ∗ Y)) hoff ?_ ?_
  · unfold S3 St
    iintro ⟨H1, H2, H3, H4, H5, H6, H7, H8, H9, HX, HZ, HY⟩
    isplitl [HX]; · iexact HX
    iframe
  · refine etrans ?_ H
    unfold S3 St
    iintro ⟨HX, H1, H2, H3, H4, H5, H6, H7, H8, H9, HZ, HY⟩
    iframe

end Mem

/-! ## The kernel's parts that make the fifteen hops -/

section Parts
variable {m ρ} {α : Type} {c : Dev nD} {K : Dev nD × Fin 6 → ℕ}

set_option maxRecDepth 65536 in
set_option maxHeartbeats 4000000 in
/-- Part 22: from hop 0 to hop 0. -/
theorem part22 {Q : α → sProp 𝕄} {R : sProp 𝕄} (v7 : BitVec 32) (k : (FVec F S1024x1152 .f32) → Prog (TpuEff nD τ sig (Elt F) Λ₀ .tc) α)
    (H : S3 m ρ K c 0 iprop(whole c cc0_scratch1 (accAt m ρ c 0) ∗ R) ⊢ WP c (k (k0_pay124 (accAt m ρ c 0) (pkt m ρ (back 1 c)))) Q) :
    S0 m ρ K c 0 iprop(whole c cc0_scratch1 (accAt m ρ c 0) ∗ R) ⊢ WP c (k0_part22 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v7 >>= k) Q := by
  rw [k0_part22_eq_skeleton]; unfold k0_part22_skel
  simp only [semSignalWord, semWaitWord, Prog.lift, Prog.bind_op, Prog.bind_ret, Prog.pure_eq_ret]
  refine ring_send 0 (by decide) (Fin.ext (k0_dev3_eq c)) rfl rfl rfl rfl ?_
  refine ring_sent 0 (by decide) (p := 1) (q := 0) rfl ?_
  refine ring_rcvd 0 (by decide) (p := 0) (q := 1) rfl ?_
  refine ring_lacc (off2 rfl rfl) ?_
  refine ring_lslot 0 (vec3 rfl rfl rfl) ?_
  refine ring_lacc (off2 rfl rfl) ?_
  exact H

set_option maxRecDepth 65536 in
set_option maxHeartbeats 4000000 in
/-- Part 23: from hop 0 to hop 1. -/
theorem part23 {Q : α → sProp 𝕄} {R : sProp 𝕄} (v5 v7 : BitVec 32) (k : (PUnit) → Prog (TpuEff nD τ sig (Elt F) Λ₀ .tc) α)
    (H : S2 m ρ K c 1 iprop(whole c cc0_scratch1 (accAt m ρ c 1) ∗ R) ⊢ WP c (k ⟨⟩) Q) :
    S3 m ρ K c 0 iprop(whole c cc0_scratch1 (accAt m ρ c 0) ∗ R) ⊢ WP c (k0_part23 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 ((k0_pay124 (accAt m ρ c 0) (pkt m ρ (back 1 c)))) >>= k) Q := by
  rw [k0_part23_eq_skeleton]; unfold k0_part23_skel
  simp only [semSignalWord, semWaitWord, Prog.lift, Prog.bind_op, Prog.bind_ret, Prog.pure_eq_ret]
  refine ring_sacc 0 (off2 rfl rfl) rfl ?_
  refine ring_give 0 (by decide) (Fin.ext (k0_dev4_eq c)) rfl rfl ?_
  refine ring_take 0 (by decide) rfl rfl ?_
  refine ring_send 1 (by decide) (Fin.ext (k0_dev5_eq c)) rfl rfl rfl rfl ?_
  refine ring_sent 1 (by decide) (p := 0) (q := 1) rfl ?_
  exact H

set_option maxRecDepth 65536 in
set_option maxHeartbeats 4000000 in
/-- Part 24: from hop 1 to hop 2. -/
theorem part24 {Q : α → sProp 𝕄} {R : sProp 𝕄} (v5 v7 : BitVec 32) (k : (PUnit) → Prog (TpuEff nD τ sig (Elt F) Λ₀ .tc) α)
    (H : S1 m ρ K c 2 iprop(whole c cc0_scratch1 (accAt m ρ c 2) ∗ R) ⊢ WP c (k ⟨⟩) Q) :
    S2 m ρ K c 1 iprop(whole c cc0_scratch1 (accAt m ρ c 1) ∗ R) ⊢ WP c (k0_part24 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 >>= k) Q := by
  rw [k0_part24_eq_skeleton]; unfold k0_part24_skel
  simp only [semSignalWord, semWaitWord, Prog.lift, Prog.bind_op, Prog.bind_ret, Prog.pure_eq_ret]
  refine ring_rcvd 1 (by decide) (p := 1) (q := 0) rfl ?_
  refine ring_lacc (off2 rfl rfl) ?_
  refine ring_lslot 1 (vec3 rfl rfl rfl) ?_
  refine ring_lacc (off2 rfl rfl) ?_
  refine ring_sacc 1 (off2 rfl rfl) rfl ?_
  refine ring_give 1 (by decide) (Fin.ext (k0_dev6_eq c)) rfl rfl ?_
  refine ring_take 1 (by decide) rfl rfl ?_
  refine ring_send 2 (by decide) (Fin.ext (k0_dev7_eq c)) rfl rfl rfl rfl ?_
  exact H

set_option maxRecDepth 65536 in
set_option maxHeartbeats 4000000 in
/-- Part 25: from hop 2 to hop 3. -/
theorem part25 {Q : α → sProp 𝕄} {R : sProp 𝕄} (v5 v7 : BitVec 32) (k : (PUnit) → Prog (TpuEff nD τ sig (Elt F) Λ₀ .tc) α)
    (H : S0 m ρ K c 3 iprop(whole c cc0_scratch1 (accAt m ρ c 3) ∗ R) ⊢ WP c (k ⟨⟩) Q) :
    S1 m ρ K c 2 iprop(whole c cc0_scratch1 (accAt m ρ c 2) ∗ R) ⊢ WP c (k0_part25 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 >>= k) Q := by
  rw [k0_part25_eq_skeleton]; unfold k0_part25_skel
  simp only [semSignalWord, semWaitWord, Prog.lift, Prog.bind_op, Prog.bind_ret, Prog.pure_eq_ret]
  refine ring_sent 2 (by decide) (p := 1) (q := 0) rfl ?_
  refine ring_rcvd 2 (by decide) (p := 0) (q := 1) rfl ?_
  refine ring_lacc (off2 rfl rfl) ?_
  refine ring_lslot 2 (vec3 rfl rfl rfl) ?_
  refine ring_lacc (off2 rfl rfl) ?_
  refine ring_sacc 2 (off2 rfl rfl) rfl ?_
  refine ring_give 2 (by decide) (Fin.ext (k0_dev8_eq c)) rfl rfl ?_
  refine ring_take 2 (by decide) rfl rfl ?_
  exact H

set_option maxRecDepth 65536 in
set_option maxHeartbeats 4000000 in
/-- Part 26: from hop 3 to hop 3. -/
theorem part26 {Q : α → sProp 𝕄} {R : sProp 𝕄} (v7 : BitVec 32) (k : (FVec F S1024x1152 .f32) → Prog (TpuEff nD τ sig (Elt F) Λ₀ .tc) α)
    (H : S3 m ρ K c 3 iprop(whole c cc0_scratch1 (accAt m ρ c 3) ∗ R) ⊢ WP c (k (k0_pay127 (accAt m ρ c 3) (pkt m ρ (back 4 c)))) Q) :
    S0 m ρ K c 3 iprop(whole c cc0_scratch1 (accAt m ρ c 3) ∗ R) ⊢ WP c (k0_part26 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v7 >>= k) Q := by
  rw [k0_part26_eq_skeleton]; unfold k0_part26_skel
  simp only [semSignalWord, semWaitWord, Prog.lift, Prog.bind_op, Prog.bind_ret, Prog.pure_eq_ret]
  refine ring_send 3 (by decide) (Fin.ext (k0_dev9_eq c)) rfl rfl rfl rfl ?_
  refine ring_sent 3 (by decide) (p := 0) (q := 1) rfl ?_
  refine ring_rcvd 3 (by decide) (p := 1) (q := 0) rfl ?_
  refine ring_lacc (off2 rfl rfl) ?_
  refine ring_lslot 3 (vec3 rfl rfl rfl) ?_
  exact H

set_option maxRecDepth 65536 in
set_option maxHeartbeats 4000000 in
/-- Part 27: from hop 3 to hop 4. -/
theorem part27 {Q : α → sProp 𝕄} {R : sProp 𝕄} (v5 v7 : BitVec 32) (k : (PUnit) → Prog (TpuEff nD τ sig (Elt F) Λ₀ .tc) α)
    (H : S2 m ρ K c 4 iprop(whole c cc0_scratch1 (accAt m ρ c 4) ∗ R) ⊢ WP c (k ⟨⟩) Q) :
    S3 m ρ K c 3 iprop(whole c cc0_scratch1 (accAt m ρ c 3) ∗ R) ⊢ WP c (k0_part27 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 ((k0_pay127 (accAt m ρ c 3) (pkt m ρ (back 4 c)))) >>= k) Q := by
  rw [k0_part27_eq_skeleton]; unfold k0_part27_skel
  simp only [semSignalWord, semWaitWord, Prog.lift, Prog.bind_op, Prog.bind_ret, Prog.pure_eq_ret]
  refine ring_lacc (off2 rfl rfl) ?_
  refine ring_sacc 3 (off2 rfl rfl) rfl ?_
  refine ring_give 3 (by decide) (Fin.ext (k0_dev10_eq c)) rfl rfl ?_
  refine ring_take 3 (by decide) rfl rfl ?_
  refine ring_send 4 (by decide) (Fin.ext (k0_dev11_eq c)) rfl rfl rfl rfl ?_
  refine ring_sent 4 (by decide) (p := 1) (q := 0) rfl ?_
  exact H

set_option maxRecDepth 65536 in
set_option maxHeartbeats 4000000 in
/-- Part 28: from hop 4 to hop 5. -/
theorem part28 {Q : α → sProp 𝕄} {R : sProp 𝕄} (v5 v7 : BitVec 32) (k : (PUnit) → Prog (TpuEff nD τ sig (Elt F) Λ₀ .tc) α)
    (H : S1 m ρ K c 5 iprop(whole c cc0_scratch1 (accAt m ρ c 5) ∗ R) ⊢ WP c (k ⟨⟩) Q) :
    S2 m ρ K c 4 iprop(whole c cc0_scratch1 (accAt m ρ c 4) ∗ R) ⊢ WP c (k0_part28 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 >>= k) Q := by
  rw [k0_part28_eq_skeleton]; unfold k0_part28_skel
  simp only [semSignalWord, semWaitWord, Prog.lift, Prog.bind_op, Prog.bind_ret, Prog.pure_eq_ret]
  refine ring_rcvd 4 (by decide) (p := 0) (q := 1) rfl ?_
  refine ring_lacc (off2 rfl rfl) ?_
  refine ring_lslot 4 (vec3 rfl rfl rfl) ?_
  refine ring_lacc (off2 rfl rfl) ?_
  refine ring_sacc 4 (off2 rfl rfl) rfl ?_
  refine ring_give 4 (by decide) (Fin.ext (k0_dev12_eq c)) rfl rfl ?_
  refine ring_take 4 (by decide) rfl rfl ?_
  refine ring_send 5 (by decide) (Fin.ext (k0_dev13_eq c)) rfl rfl rfl rfl ?_
  exact H

set_option maxRecDepth 65536 in
set_option maxHeartbeats 4000000 in
/-- Part 29: from hop 5 to hop 6. -/
theorem part29 {Q : α → sProp 𝕄} {R : sProp 𝕄} (v5 v7 : BitVec 32) (k : (BitVec 32) → Prog (TpuEff nD τ sig (Elt F) Λ₀ .tc) α)
    (H : S0 m ρ K c 6 iprop(whole c cc0_scratch1 (accAt m ρ c 6) ∗ R) ⊢ WP c (k 1#32) Q) :
    S1 m ρ K c 5 iprop(whole c cc0_scratch1 (accAt m ρ c 5) ∗ R) ⊢ WP c (k0_part29 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 >>= k) Q := by
  rw [k0_part29_eq_skeleton]; unfold k0_part29_skel
  simp only [semSignalWord, semWaitWord, Prog.lift, Prog.bind_op, Prog.bind_ret, Prog.pure_eq_ret]
  refine ring_sent 5 (by decide) (p := 0) (q := 1) rfl ?_
  refine ring_rcvd 5 (by decide) (p := 1) (q := 0) rfl ?_
  refine ring_lacc (off2 rfl rfl) ?_
  refine ring_lslot 5 (vec3 rfl rfl rfl) ?_
  refine ring_lacc (off2 rfl rfl) ?_
  refine ring_sacc 5 (off2 rfl rfl) rfl ?_
  refine ring_give 5 (by decide) (Fin.ext (k0_dev14_eq c)) rfl rfl ?_
  refine ring_take 5 (by decide) rfl rfl ?_
  exact H

set_option maxRecDepth 65536 in
set_option maxHeartbeats 4000000 in
/-- Part 30: from hop 6 to hop 6. -/
theorem part30 {Q : α → sProp 𝕄} {R : sProp 𝕄} (v7 c1_i32_805 : BitVec 32) (k : (Σ' (v818 : Vec F S1024x1152 .f32), FVec F S1024x1152 .f32) → Prog (TpuEff nD τ sig (Elt F) Λ₀ .tc) α)
    (H : S3 m ρ K c 6 iprop(whole c cc0_scratch1 (accAt m ρ c 6) ∗ R) ⊢ WP c (k ⟨(accAt m ρ c 6), k0_pay131 (pkt m ρ (back 7 c))⟩) Q) :
    S0 m ρ K c 6 iprop(whole c cc0_scratch1 (accAt m ρ c 6) ∗ R) ⊢ WP c (k0_part30 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v7 c1_i32_805 >>= k) Q := by
  rw [k0_part30_eq_skeleton]; unfold k0_part30_skel
  simp only [semSignalWord, semWaitWord, Prog.lift, Prog.bind_op, Prog.bind_ret, Prog.pure_eq_ret]
  refine ring_send 6 (by decide) (Fin.ext (k0_dev15_eq c)) rfl rfl rfl rfl ?_
  refine ring_sent 6 (by decide) (p := 1) (q := 0) rfl ?_
  refine ring_rcvd 6 (by decide) (p := 0) (q := 1) rfl ?_
  refine ring_lacc (off2 rfl rfl) ?_
  refine ring_lslot 6 (vec3 rfl rfl rfl) ?_
  exact H

set_option maxRecDepth 65536 in
set_option maxHeartbeats 4000000 in
/-- Part 31: from hop 6 to hop 7. -/
theorem part31 {Q : α → sProp 𝕄} {R : sProp 𝕄} (v5 v7 : BitVec 32) (k : (Σ' (v844 : BitVec 32), BitVec 32) → Prog (TpuEff nD τ sig (Elt F) Λ₀ .tc) α)
    (H : ∀ u w, S2 m ρ K c 7 iprop(whole c cc0_scratch1 (accAt m ρ c 7) ∗ R) ⊢ WP c (k ⟨u, w⟩) Q) :
    S3 m ρ K c 6 iprop(whole c cc0_scratch1 (accAt m ρ c 6) ∗ R) ⊢ WP c (k0_part31 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 (accAt m ρ c 6) (k0_pay131 (pkt m ρ (back 7 c))) >>= k) Q := by
  rw [k0_part31_eq_skeleton]; unfold k0_part31_skel
  simp only [semSignalWord, semWaitWord, Prog.lift, Prog.bind_op, Prog.bind_ret, Prog.pure_eq_ret]
  refine ring_lacc (off2 rfl rfl) ?_
  refine ring_sacc 6 (off2 rfl rfl) rfl ?_
  refine ring_give 6 (by decide) (Fin.ext (k0_dev16_eq c)) rfl rfl ?_
  refine ring_take 6 (by decide) rfl rfl ?_
  refine ring_send 7 (by decide) (Fin.ext (k0_dev17_eq c)) rfl rfl rfl rfl ?_
  refine ring_sent 7 (by decide) (p := 0) (q := 1) rfl ?_
  exact H _ _

set_option maxRecDepth 65536 in
set_option maxHeartbeats 4000000 in
/-- Part 32: from hop 7 to hop 8. -/
theorem part32 {Q : α → sProp 𝕄} {R : sProp 𝕄} (v5 v7 v844 c0_i32_866 : BitVec 32) (k : (PUnit) → Prog (TpuEff nD τ sig (Elt F) Λ₀ .tc) α)
    (H : S1 m ρ K c 8 iprop(whole c cc0_scratch1 (accAt m ρ c 8) ∗ R) ⊢ WP c (k ⟨⟩) Q) :
    S2 m ρ K c 7 iprop(whole c cc0_scratch1 (accAt m ρ c 7) ∗ R) ⊢ WP c (k0_part32 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 v844 c0_i32_866 >>= k) Q := by
  rw [k0_part32_eq_skeleton]; unfold k0_part32_skel
  simp only [semSignalWord, semWaitWord, Prog.lift, Prog.bind_op, Prog.bind_ret, Prog.pure_eq_ret]
  refine ring_rcvd 7 (by decide) (p := 1) (q := 0) rfl ?_
  refine ring_lacc (off2 rfl rfl) ?_
  refine ring_lslot 7 (vec3 rfl rfl rfl) ?_
  refine ring_lacc (off2 rfl rfl) ?_
  refine ring_sacc 7 (off2 rfl rfl) rfl ?_
  refine ring_give 7 (by decide) (Fin.ext (k0_dev18_eq c)) rfl rfl ?_
  refine ring_take 7 (by decide) rfl rfl ?_
  refine ring_send 8 (by decide) (Fin.ext (k0_dev19_eq c)) rfl rfl rfl rfl ?_
  exact H

set_option maxRecDepth 65536 in
set_option maxHeartbeats 4000000 in
/-- Part 33: from hop 8 to hop 9. -/
theorem part33 {Q : α → sProp 𝕄} {R : sProp 𝕄} (v5 v7 : BitVec 32) (k : (PUnit) → Prog (TpuEff nD τ sig (Elt F) Λ₀ .tc) α)
    (H : S0 m ρ K c 9 iprop(whole c cc0_scratch1 (accAt m ρ c 9) ∗ R) ⊢ WP c (k ⟨⟩) Q) :
    S1 m ρ K c 8 iprop(whole c cc0_scratch1 (accAt m ρ c 8) ∗ R) ⊢ WP c (k0_part33 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 >>= k) Q := by
  rw [k0_part33_eq_skeleton]; unfold k0_part33_skel
  simp only [semSignalWord, semWaitWord, Prog.lift, Prog.bind_op, Prog.bind_ret, Prog.pure_eq_ret]
  refine ring_sent 8 (by decide) (p := 1) (q := 0) rfl ?_
  refine ring_rcvd 8 (by decide) (p := 0) (q := 1) rfl ?_
  refine ring_lacc (off2 rfl rfl) ?_
  refine ring_lslot 8 (vec3 rfl rfl rfl) ?_
  refine ring_lacc (off2 rfl rfl) ?_
  refine ring_sacc 8 (off2 rfl rfl) rfl ?_
  refine ring_give 8 (by decide) (Fin.ext (k0_dev20_eq c)) rfl rfl ?_
  refine ring_take 8 (by decide) rfl rfl ?_
  exact H

set_option maxRecDepth 65536 in
set_option maxHeartbeats 4000000 in
/-- Part 34: from hop 9 to hop 9. -/
theorem part34 {Q : α → sProp 𝕄} {R : sProp 𝕄} (v7 : BitVec 32) (k : (Vec F S1024x1152 .f32) → Prog (TpuEff nD τ sig (Elt F) Λ₀ .tc) α)
    (H : S3 m ρ K c 9 iprop(whole c cc0_scratch1 (accAt m ρ c 9) ∗ R) ⊢ WP c (k (accAt m ρ c 9)) Q) :
    S0 m ρ K c 9 iprop(whole c cc0_scratch1 (accAt m ρ c 9) ∗ R) ⊢ WP c (k0_part34 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v7 >>= k) Q := by
  rw [k0_part34_eq_skeleton]; unfold k0_part34_skel
  simp only [semSignalWord, semWaitWord, Prog.lift, Prog.bind_op, Prog.bind_ret, Prog.pure_eq_ret]
  refine ring_send 9 (by decide) (Fin.ext (k0_dev21_eq c)) rfl rfl rfl rfl ?_
  refine ring_sent 9 (by decide) (p := 0) (q := 1) rfl ?_
  refine ring_rcvd 9 (by decide) (p := 1) (q := 0) rfl ?_
  refine ring_lacc (off2 rfl rfl) ?_
  exact H

set_option maxRecDepth 65536 in
set_option maxHeartbeats 4000000 in
/-- Part 35: from hop 9 to hop 10. -/
theorem part35 {Q : α → sProp 𝕄} {R : sProp 𝕄} (v5 v7 : BitVec 32) (k : (PUnit) → Prog (TpuEff nD τ sig (Elt F) Λ₀ .tc) α)
    (H : S2 m ρ K c 10 iprop(whole c cc0_scratch1 (accAt m ρ c 10) ∗ R) ⊢ WP c (k ⟨⟩) Q) :
    S3 m ρ K c 9 iprop(whole c cc0_scratch1 (accAt m ρ c 9) ∗ R) ⊢ WP c (k0_part35 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 ((accAt m ρ c 9)) >>= k) Q := by
  rw [k0_part35_eq_skeleton]; unfold k0_part35_skel
  simp only [semSignalWord, semWaitWord, Prog.lift, Prog.bind_op, Prog.bind_ret, Prog.pure_eq_ret]
  refine ring_lslot 9 (vec3 rfl rfl rfl) ?_
  refine ring_lacc (off2 rfl rfl) ?_
  refine ring_sacc 9 (off2 rfl rfl) rfl ?_
  refine ring_give 9 (by decide) (Fin.ext (k0_dev22_eq c)) rfl rfl ?_
  refine ring_take 9 (by decide) rfl rfl ?_
  refine ring_send 10 (by decide) (Fin.ext (k0_dev23_eq c)) rfl rfl rfl rfl ?_
  refine ring_sent 10 (by decide) (p := 1) (q := 0) rfl ?_
  exact H

set_option maxRecDepth 65536 in
set_option maxHeartbeats 4000000 in
/-- Part 36: from hop 10 to hop 11. -/
theorem part36 {Q : α → sProp 𝕄} {R : sProp 𝕄} (v5 v7 : BitVec 32) (k : (PUnit) → Prog (TpuEff nD τ sig (Elt F) Λ₀ .tc) α)
    (H : S0 m ρ K c 11 iprop(whole c cc0_scratch1 (accAt m ρ c 11) ∗ R) ⊢ WP c (k ⟨⟩) Q) :
    S2 m ρ K c 10 iprop(whole c cc0_scratch1 (accAt m ρ c 10) ∗ R) ⊢ WP c (k0_part36 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 >>= k) Q := by
  rw [k0_part36_eq_skeleton]; unfold k0_part36_skel
  simp only [semSignalWord, semWaitWord, Prog.lift, Prog.bind_op, Prog.bind_ret, Prog.pure_eq_ret]
  refine ring_rcvd 10 (by decide) (p := 0) (q := 1) rfl ?_
  refine ring_lacc (off2 rfl rfl) ?_
  refine ring_lslot 10 (vec3 rfl rfl rfl) ?_
  refine ring_lacc (off2 rfl rfl) ?_
  refine ring_sacc 10 (off2 rfl rfl) rfl ?_
  refine ring_give 10 (by decide) (Fin.ext (k0_dev24_eq c)) rfl rfl ?_
  refine ring_take 10 (by decide) rfl rfl ?_
  exact H

set_option maxRecDepth 65536 in
set_option maxHeartbeats 4000000 in
/-- Part 37: from hop 11 to hop 11. -/
theorem part37 {Q : α → sProp 𝕄} {R : sProp 𝕄} (v5 v7 : BitVec 32) (k : (PUnit) → Prog (TpuEff nD τ sig (Elt F) Λ₀ .tc) α)
    (H : S4 m ρ K c 11 iprop(whole c cc0_scratch1 (accAt m ρ c 12) ∗ R) ⊢ WP c (k ⟨⟩) Q) :
    S0 m ρ K c 11 iprop(whole c cc0_scratch1 (accAt m ρ c 11) ∗ R) ⊢ WP c (k0_part37 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 >>= k) Q := by
  rw [k0_part37_eq_skeleton]; unfold k0_part37_skel
  simp only [semSignalWord, semWaitWord, Prog.lift, Prog.bind_op, Prog.bind_ret, Prog.pure_eq_ret]
  refine ring_send 11 (by decide) (Fin.ext (k0_dev25_eq c)) rfl rfl rfl rfl ?_
  refine ring_sent 11 (by decide) (p := 0) (q := 1) rfl ?_
  refine ring_rcvd 11 (by decide) (p := 1) (q := 0) rfl ?_
  refine ring_lacc (off2 rfl rfl) ?_
  refine ring_lslot 11 (vec3 rfl rfl rfl) ?_
  refine ring_lacc (off2 rfl rfl) ?_
  refine ring_sacc 11 (off2 rfl rfl) rfl ?_
  refine ring_give 11 (by decide) (Fin.ext (k0_dev26_eq c)) rfl rfl ?_
  exact H

set_option maxRecDepth 65536 in
set_option maxHeartbeats 4000000 in
/-- Part 38: from hop 11 to hop 12. -/
theorem part38 {Q : α → sProp 𝕄} {R : sProp 𝕄} (v7 : BitVec 32) (k : (Vec F S1024x1152 .f32) → Prog (TpuEff nD τ sig (Elt F) Λ₀ .tc) α)
    (H : S3 m ρ K c 12 iprop(whole c cc0_scratch1 (accAt m ρ c 12) ∗ R) ⊢ WP c (k (accAt m ρ c 12)) Q) :
    S4 m ρ K c 11 iprop(whole c cc0_scratch1 (accAt m ρ c 12) ∗ R) ⊢ WP c (k0_part38 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v7 >>= k) Q := by
  rw [k0_part38_eq_skeleton]; unfold k0_part38_skel
  simp only [semSignalWord, semWaitWord, Prog.lift, Prog.bind_op, Prog.bind_ret, Prog.pure_eq_ret]
  refine ring_take 11 (by decide) rfl rfl ?_
  refine ring_send 12 (by decide) (Fin.ext (k0_dev27_eq c)) rfl rfl rfl rfl ?_
  refine ring_sent 12 (by decide) (p := 1) (q := 0) rfl ?_
  refine ring_rcvd 12 (by decide) (p := 0) (q := 1) rfl ?_
  refine ring_lacc (off2 rfl rfl) ?_
  exact H

set_option maxRecDepth 65536 in
set_option maxHeartbeats 4000000 in
/-- Part 39: from hop 12 to hop 13. -/
theorem part39 {Q : α → sProp 𝕄} {R : sProp 𝕄} (v5 v7 : BitVec 32) (k : (PUnit) → Prog (TpuEff nD τ sig (Elt F) Λ₀ .tc) α)
    (H : S2 m ρ K c 13 iprop(whole c cc0_scratch1 (accAt m ρ c 13) ∗ R) ⊢ WP c (k ⟨⟩) Q) :
    S3 m ρ K c 12 iprop(whole c cc0_scratch1 (accAt m ρ c 12) ∗ R) ⊢ WP c (k0_part39 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 ((accAt m ρ c 12)) >>= k) Q := by
  rw [k0_part39_eq_skeleton]; unfold k0_part39_skel
  simp only [semSignalWord, semWaitWord, Prog.lift, Prog.bind_op, Prog.bind_ret, Prog.pure_eq_ret]
  refine ring_lslot 12 (vec3 rfl rfl rfl) ?_
  refine ring_lacc (off2 rfl rfl) ?_
  refine ring_sacc 12 (off2 rfl rfl) rfl ?_
  refine ring_give 12 (by decide) (Fin.ext (k0_dev28_eq c)) rfl rfl ?_
  refine ring_take 12 (by decide) rfl rfl ?_
  refine ring_send 13 (by decide) (Fin.ext (k0_dev29_eq c)) rfl rfl rfl rfl ?_
  refine ring_sent 13 (by decide) (p := 0) (q := 1) rfl ?_
  exact H

set_option maxRecDepth 65536 in
set_option maxHeartbeats 4000000 in
/-- Part 40: from hop 13 to hop 14. -/
theorem part40 {Q : α → sProp 𝕄} {R : sProp 𝕄} (v5 v7 : BitVec 32) (k : (PUnit) → Prog (TpuEff nD τ sig (Elt F) Λ₀ .tc) α)
    (H : S0 m ρ K c 14 iprop(whole c cc0_scratch1 (accAt m ρ c 14) ∗ R) ⊢ WP c (k ⟨⟩) Q) :
    S2 m ρ K c 13 iprop(whole c cc0_scratch1 (accAt m ρ c 13) ∗ R) ⊢ WP c (k0_part40 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v5 v7 >>= k) Q := by
  rw [k0_part40_eq_skeleton]; unfold k0_part40_skel
  simp only [semSignalWord, semWaitWord, Prog.lift, Prog.bind_op, Prog.bind_ret, Prog.pure_eq_ret]
  refine ring_rcvd 13 (by decide) (p := 1) (q := 0) rfl ?_
  refine ring_lacc (off2 rfl rfl) ?_
  refine ring_lslot 13 (vec3 rfl rfl rfl) ?_
  refine ring_lacc (off2 rfl rfl) ?_
  refine ring_sacc 13 (off2 rfl rfl) rfl ?_
  refine ring_give 13 (by decide) (Fin.ext (k0_dev30_eq c)) rfl rfl ?_
  refine ring_take 13 (by decide) rfl rfl ?_
  exact H

set_option maxRecDepth 65536 in
set_option maxHeartbeats 4000000 in
/-- Part 41: from hop 14 to hop 14. -/
theorem part41 {Q : α → sProp 𝕄} {R : sProp 𝕄} (v7 : BitVec 32) (k : (Vec F S256x1 .f32) → Prog (TpuEff nD τ sig (Elt F) Λ₀ .tc) α)
    (H : S3 m ρ K c 14 iprop(whole c cc0_scratch1 (accAt m ρ c 15) ∗ R) ⊢ WP c (k (totL m ρ c 0 0)) Q) :
    S0 m ρ K c 14 iprop(whole c cc0_scratch1 (accAt m ρ c 14) ∗ R) ⊢ WP c (k0_part41 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 c v7 >>= k) Q := by
  rw [k0_part41_eq_skeleton]; unfold k0_part41_skel
  simp only [semSignalWord, semWaitWord, Prog.lift, Prog.bind_op, Prog.bind_ret, Prog.pure_eq_ret]
  refine ring_send 14 (by decide) (Fin.ext (k0_dev31_eq c)) rfl rfl rfl rfl ?_
  refine ring_sent 14 (by decide) (p := 1) (q := 0) rfl ?_
  refine ring_rcvd 14 (by decide) (p := 0) (q := 1) rfl ?_
  refine ring_lacc (off2 rfl rfl) ?_
  refine ring_lslot 14 (vec3 rfl rfl rfl) ?_
  refine ring_lacc (off2 rfl rfl) ?_
  refine ring_sacc 14 (off2 rfl rfl) rfl ?_
  refine ring_lcol 0 0 (vec2 rfl rfl) ?_
  exact H

end Parts

end Cert.Attn

end
-- ==== Proof.Norm.lean ====
/-
# The normalisation

The weighted values divided by the sums of weights, one batch and head at a time: the rules of its loads and stores, and
the printed parts of the kernel that make it.
-/
module

public import proofs.«01_k».proof.Proof.RingParts

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The normalisation's rules -/

/-- The step at which an element of the normalised output is stored: eight heads a batch. -/
def stepN (i : S1024x1024.Idx) : ℕ := (i 0).val / 256 * 8 + (i 1).val / 128

/-- The state of the normalisation: `n` steps stored, the total at hand, and `R` besides. -/
def attnP (c : Dev nD) (n : ℕ) : sProp 𝕄 := iprop(∃ f : S1024x1024.Idx → Elt F .bf16, ⌜Agree stepN (attnA m ρ c) n f⌝ ∗ whole c cc0_scratch3 f)
def NS (c : Dev nD) (n : ℕ) (R : sProp 𝕄) : sProp 𝕄 := iprop(attnP m ρ c n ∗ whole c cc0_scratch1 (tot m ρ c) ∗ R)

section Norm
variable {m ρ} {α : Type} {c : Dev nD} {n : ℕ}

/-- The weighted values of a batch and head of the total, read. -/
theorem read_totO (b : Fin 4) (h : Fin 8) {off : Fin 2 → ℕ} {inb} (hoff : off = ![256 * b.val, 128 * h.val]) :
    (Memref.whole cc0_scratch1).view.readAt (Elt F) (Rect.unit (s := S1024x1152) off S256x128.size inb).toLoadRect (tot m ρ c) = totO m ρ c b h := by
  subst hoff
  rw [View.readAt_rect]
  funext x
  show tot m ρ c _ = tot m ρ c _
  refine congrArg (tot m ρ c) (funext fun a => Fin.ext ?_)
  refine (ValueKit.view_emb_slice_whole_unit_val cc0_scratch1 _ _ inb x a).trans ?_
  match a with
  | ⟨0, _⟩ => rfl
  | ⟨1, _⟩ => rfl

/-- Loading a column of sums, and the weighted values, of a batch and head. -/
theorem norm_l {Q : α → sProp 𝕄} {R : sProp 𝕄} (b : Fin 4) (h : Fin 8) {off : Fin 2 → ℕ} {inb hl}
    {k : (S256x1.Idx → Elt F .f32) → Prog (TpuEff nD τ sig (Elt F) Λ₀ .tc) α} (hoff : off = ![256 * b.val, 1024 + h.val])
    (H : NS m ρ c n R ⊢ WP c (k (totL m ρ c b h)) Q) :
    NS m ρ c n R ⊢ WP c (.op (.load (Memref.whole cc0_scratch1) (Rect.unit (s := S1024x1152) off S256x1.size inb).toLoadRect hl) k) Q := by
  refine load_of (f := tot m ρ c) (R := iprop(attnP m ρ c n ∗ R)) ?_ ?_
  · unfold NS; iintro ⟨H1, H2, H3⟩; iframe
  · rw [read_totL b h hoff]; refine etrans ?_ H
    unfold NS; iintro ⟨H1, H2, H3⟩; iframe
theorem norm_o {Q : α → sProp 𝕄} {R : sProp 𝕄} (b : Fin 4) (h : Fin 8) {off : Fin 2 → ℕ} {inb hl}
    {k : (S256x128.Idx → Elt F .f32) → Prog (TpuEff nD τ sig (Elt F) Λ₀ .tc) α} (hoff : off = ![256 * b.val, 128 * h.val])
    (H : NS m ρ c n R ⊢ WP c (k (totO m ρ c b h)) Q) :
    NS m ρ c n R ⊢ WP c (.op (.load (Memref.whole cc0_scratch1) (Rect.unit (s := S1024x1152) off S256x128.size inb).toLoadRect hl) k) Q := by
  refine load_of (f := tot m ρ c) (R := iprop(attnP m ρ c n ∗ R)) ?_ ?_
  · unfold NS; iintro ⟨H1, H2, H3⟩; iframe
  · rw [read_totO b h hoff]; refine etrans ?_ H
    unfold NS; iintro ⟨H1, H2, H3⟩; iframe

/-- A load from the output buffer of which nothing is read. -/
theorem norm_dead {Q : α → sProp 𝕄} {R : sProp 𝕄} {r : Rect S1024x1024} {hl} {k : (r.shape.Idx → Elt F .bf16) → Prog (TpuEff nD τ sig (Elt F) Λ₀ .tc) α}
    (H : ∀ x, NS m ρ c n R ⊢ WP c (k x) Q) :
    NS m ρ c n R ⊢ WP c (.op (.load (Memref.whole cc0_scratch3) r.toLoadRect hl) k) Q := by
  unfold NS attnP
  iintro ⟨⟨%f, %hf, H1⟩, H2, H3⟩
  iapply (load_of (k := k) (c := c) (f := f) (R := iprop(whole c cc0_scratch1 (tot m ρ c) ∗ R)) (Entails.refl _) ?_)
  · refine etrans ?_ (H _)
    unfold NS attnP
    iintro ⟨H1, H2⟩
    isplitl [H1]
    · iexists f; isplitr
      · ipureintro; exact hf
      · iexact H1
    · iexact H2
  · isplitl [H1]; · iexact H1
    isplitl [H2] <;> iassumption

set_option maxRecDepth 4096 in
/-- Storing the normalised output of a batch and head. -/
theorem norm_st {Q : α → sProp 𝕄} {R : sProp 𝕄} (b : Fin 4) (h : Fin 8) {off : Fin 2 → ℕ} {inb hx hm} {w : S256x128.Idx → Elt F .bf16}
    {k : PUnit → Prog (TpuEff nD τ sig (Elt F) Λ₀ .tc) α} (hoff : off = ![256 * b.val, 128 * h.val]) (hn : n = b.val * 8 + h.val)
    (hw : w = k0_pay141 (totL m ρ c b h) (totO m ρ c b h)) (H : NS m ρ c (n + 1) R ⊢ WP c (k ⟨⟩) Q) :
    NS m ρ c n R ⊢ WP c (.op (.store (Memref.whole cc0_scratch3) (Rect.unit (s := S1024x1024) off S256x128.size inb) w Finset.univ hx hm) k) Q := by
  subst hoff hw hn
  unfold NS attnP
  iintro ⟨⟨%f, %hf, H1⟩, H2, H3⟩
  have hA : Agree stepN (attnA m ρ c) (b.val * 8 + h.val + 1) (((Memref.whole cc0_scratch3).access (Rect.unit (s := S1024x1024) ![256 * b.val, 128 * h.val] S256x128.size inb)).write
      (Elt F) f (k0_pay141 (totL m ρ c b h) (totO m ρ c b h)) Finset.univ) := by
    refine Agree.store (b := cc0_scratch3) (step := stepN) (G := attnA m ρ c) hf (fun x => ?_) (fun i hi => ?_)
    · have hb : b.val < 4 := b.isLt
      have hh : h.val < 8 := h.isLt
      have h0 : (x 0).val < 256 := (x 0).isLt
      have h1 : (x 1).val < 128 := (x 1).isLt
      have e0 : (((Rect.unit (s := S1024x1024) ![256 * b.val, 128 * h.val] S256x128.size inb).emb x 0 : Fin 1024) : ℕ) = 256 * b.val + (x 0).val :=
        ValueKit.view_emb_slice_whole_unit_val cc0_scratch3 _ _ inb x 0
      have e1 : (((Rect.unit (s := S1024x1024) ![256 * b.val, 128 * h.val] S256x128.size inb).emb x 1 : Fin 1024) : ℕ) = 128 * h.val + (x 1).val :=
        ValueKit.view_emb_slice_whole_unit_val cc0_scratch3 _ _ inb x 1
      unfold attnA
      have d0 : dv4 ((Rect.unit (s := S1024x1024) ![256 * b.val, 128 * h.val] S256x128.size inb).emb x 0) = b := Fin.ext (by
        show (((Rect.unit (s := S1024x1024) ![256 * b.val, 128 * h.val] S256x128.size inb).emb x 0 : Fin 1024) : ℕ) / 256 = b.val; omega)
      have d1 : dvh ((Rect.unit (s := S1024x1024) ![256 * b.val, 128 * h.val] S256x128.size inb).emb x 1) = h := Fin.ext (by
        show (((Rect.unit (s := S1024x1024) ![256 * b.val, 128 * h.val] S256x128.size inb).emb x 1 : Fin 1024) : ℕ) / 128 = h.val; omega)
      rw [d0, d1]
      refine congrArg (k0_pay141 (totL m ρ c b h) (totO m ρ c b h)) (funext fun a => Fin.ext ?_)
      match a with
      | ⟨0, _⟩ => show (((Rect.unit (s := S1024x1024) ![256 * b.val, 128 * h.val] S256x128.size inb).emb x 0 : Fin 1024) : ℕ) % 256 = (x 0).val; omega
      | ⟨1, _⟩ => show (((Rect.unit (s := S1024x1024) ![256 * b.val, 128 * h.val] S256x128.size inb).emb x 1 : Fin 1024) : ℕ) % 128 = (x 1).val; omega
    · rw [Rect.mem_set_unit]
      have hh : h.val < 8 := h.isLt
      have h0 : (i 0).val < 1024 := (i 0).isLt
      have h1 : (i 1).val < 1024 := (i 1).isLt
      unfold stepN at hi
      intro a
      match a with
      | ⟨0, _⟩ => show 256 * b.val ≤ (i 0).val ∧ (i 0).val < 256 * b.val + 256; omega
      | ⟨1, _⟩ => show 128 * h.val ≤ (i 1).val ∧ (i 1).val < 128 * h.val + 128; omega
  iapply (store_of (k := k) (c := c) (f := f) (R := iprop(whole c cc0_scratch1 (tot m ρ c) ∗ R)) (Entails.refl _) ?_)
  · refine etrans ?_ H
    unfold NS attnP
    iintro ⟨H1, H2⟩
    isplitl [H1]
    · iexists _; isplitr
      · ipureintro; exact hA
      · iexact H1
    · iexact H2
  · isplitl [H1]; · iexact H1
    isplitl [H2] <;> iassumption

/-- After the last step the buffer holds the whole normalised output. -/
theorem norm_done : (attnP m ρ c 32 : sProp 𝕄) ⊢ whole c cc0_scratch3 (attnA m ρ c) := by
  unfold attnP
  iintro ⟨%f, %hf, H⟩
  have e : f = attnA m ρ c := funext fun i => hf i (by
    have h0 : (i 0).val < 1024 := (i 0).isLt
    have h1 : (i 1).val < 1024 := (i 1).isLt
    unfold stepN; omega)
  subst e
  iexact H

/-- Loading the whole normalised output. -/
theorem norm_all {Q : α → sProp 𝕄} {R : sProp 𝕄} {off : Fin 2 → ℕ} {inb hl}
    {k : (S1024x1024.Idx → Elt F .bf16) → Prog (TpuEff nD τ sig (Elt F) Λ₀ .tc) α} (hoff : off = fun _ => 0)
    (H : iprop(whole c cc0_scratch3 (attnA m ρ c) ∗ whole c cc0_scratch1 (tot m ρ c) ∗ R) ⊢ WP c (k (attnA m ρ c)) Q) :
    NS m ρ c 32 R ⊢ WP c (.op (.load (Memref.whole cc0_scratch3) (Rect.unit (s := S1024x1024) off S1024x1024.size inb).toLoadRect hl) k) Q := by
  refine load_of (f := attnA m ρ c) (R := iprop(whole c cc0_scratch1 (tot m ρ c) ∗ R)) ?_ ?_
  · unfold NS; exact sep_mono_left norm_done
  · have e : (Memref.whole cc0_scratch3).view.readAt (Elt F) (Rect.unit (s := S1024x1024) off S1024x1024.size inb).toLoadRect (attnA m ρ c) = attnA m ρ c :=
      Memref.readAt_unit_zero (Elt F) cc0_scratch3 hoff inb _
    rw [e]; exact H

end Norm

/-! ## The kernel's parts that normalise -/

section Parts
variable {m ρ} {α : Type} {c : Dev nD}

set_option maxRecDepth 65536 in
set_option maxHeartbeats 4000000 in
/-- Part 42: from 0 steps stored to 4. -/
theorem part42 {Q : α → sProp 𝕄} {R : sProp 𝕄} (k : (Vec F S256x1 .f32) → Prog (TpuEff nD τ sig (Elt F) Λ₀ .tc) α)
    (H : NS m ρ c 4 R ⊢ WP c (k (totL m ρ c 0 4)) Q) :
    NS m ρ c 0 R ⊢ WP c (k0_part42 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (totL m ρ c 0 0) >>= k) Q := by
  rw [k0_part42_eq_skeleton]; unfold k0_part42_skel
  simp only [Prog.lift, Prog.bind_op, Prog.bind_ret, Prog.pure_eq_ret]
  refine norm_o 0 0 (vec2 rfl rfl) ?_
  refine norm_dead fun _ => ?_
  refine norm_st 0 0 (vec2 rfl rfl) rfl rfl ?_
  refine norm_l 0 1 (vec2 rfl rfl) ?_
  refine norm_o 0 1 (vec2 rfl rfl) ?_
  refine norm_dead fun _ => ?_
  refine norm_st 0 1 (vec2 rfl rfl) rfl rfl ?_
  refine norm_l 0 2 (vec2 rfl rfl) ?_
  refine norm_o 0 2 (vec2 rfl rfl) ?_
  refine norm_dead fun _ => ?_
  refine norm_st 0 2 (vec2 rfl rfl) rfl rfl ?_
  refine norm_l 0 3 (vec2 rfl rfl) ?_
  refine norm_o 0 3 (vec2 rfl rfl) ?_
  refine norm_dead fun _ => ?_
  refine norm_st 0 3 (vec2 rfl rfl) rfl rfl ?_
  refine norm_l 0 4 (vec2 rfl rfl) ?_
  exact H

set_option maxRecDepth 65536 in
set_option maxHeartbeats 4000000 in
/-- Part 43: from 4 steps stored to 8. -/
theorem part43 {Q : α → sProp 𝕄} {R : sProp 𝕄} (k : (Vec F S256x1 .f32) → Prog (TpuEff nD τ sig (Elt F) Λ₀ .tc) α)
    (H : NS m ρ c 8 R ⊢ WP c (k (totL m ρ c 1 0)) Q) :
    NS m ρ c 4 R ⊢ WP c (k0_part43 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (totL m ρ c 0 4) >>= k) Q := by
  rw [k0_part43_eq_skeleton]; unfold k0_part43_skel
  simp only [Prog.lift, Prog.bind_op, Prog.bind_ret, Prog.pure_eq_ret]
  refine norm_o 0 4 (vec2 rfl rfl) ?_
  refine norm_dead fun _ => ?_
  refine norm_st 0 4 (vec2 rfl rfl) rfl rfl ?_
  refine norm_l 0 5 (vec2 rfl rfl) ?_
  refine norm_o 0 5 (vec2 rfl rfl) ?_
  refine norm_dead fun _ => ?_
  refine norm_st 0 5 (vec2 rfl rfl) rfl rfl ?_
  refine norm_l 0 6 (vec2 rfl rfl) ?_
  refine norm_o 0 6 (vec2 rfl rfl) ?_
  refine norm_dead fun _ => ?_
  refine norm_st 0 6 (vec2 rfl rfl) rfl rfl ?_
  refine norm_l 0 7 (vec2 rfl rfl) ?_
  refine norm_o 0 7 (vec2 rfl rfl) ?_
  refine norm_dead fun _ => ?_
  refine norm_st 0 7 (vec2 rfl rfl) rfl rfl ?_
  refine norm_l 1 0 (vec2 rfl rfl) ?_
  exact H

set_option maxRecDepth 65536 in
set_option maxHeartbeats 4000000 in
/-- Part 44: from 8 steps stored to 12. -/
theorem part44 {Q : α → sProp 𝕄} {R : sProp 𝕄} (k : (Vec F S256x1 .f32) → Prog (TpuEff nD τ sig (Elt F) Λ₀ .tc) α)
    (H : NS m ρ c 12 R ⊢ WP c (k (totL m ρ c 1 4)) Q) :
    NS m ρ c 8 R ⊢ WP c (k0_part44 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (totL m ρ c 1 0) >>= k) Q := by
  rw [k0_part44_eq_skeleton]; unfold k0_part44_skel
  simp only [Prog.lift, Prog.bind_op, Prog.bind_ret, Prog.pure_eq_ret]
  refine norm_o 1 0 (vec2 rfl rfl) ?_
  refine norm_dead fun _ => ?_
  refine norm_st 1 0 (vec2 rfl rfl) rfl rfl ?_
  refine norm_l 1 1 (vec2 rfl rfl) ?_
  refine norm_o 1 1 (vec2 rfl rfl) ?_
  refine norm_dead fun _ => ?_
  refine norm_st 1 1 (vec2 rfl rfl) rfl rfl ?_
  refine norm_l 1 2 (vec2 rfl rfl) ?_
  refine norm_o 1 2 (vec2 rfl rfl) ?_
  refine norm_dead fun _ => ?_
  refine norm_st 1 2 (vec2 rfl rfl) rfl rfl ?_
  refine norm_l 1 3 (vec2 rfl rfl) ?_
  refine norm_o 1 3 (vec2 rfl rfl) ?_
  refine norm_dead fun _ => ?_
  refine norm_st 1 3 (vec2 rfl rfl) rfl rfl ?_
  refine norm_l 1 4 (vec2 rfl rfl) ?_
  exact H

set_option maxRecDepth 65536 in
set_option maxHeartbeats 4000000 in
/-- Part 45: from 12 steps stored to 16. -/
theorem part45 {Q : α → sProp 𝕄} {R : sProp 𝕄} (k : (Vec F S256x1 .f32) → Prog (TpuEff nD τ sig (Elt F) Λ₀ .tc) α)
    (H : NS m ρ c 16 R ⊢ WP c (k (totL m ρ c 2 0)) Q) :
    NS m ρ c 12 R ⊢ WP c (k0_part45 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (totL m ρ c 1 4) >>= k) Q := by
  rw [k0_part45_eq_skeleton]; unfold k0_part45_skel
  simp only [Prog.lift, Prog.bind_op, Prog.bind_ret, Prog.pure_eq_ret]
  refine norm_o 1 4 (vec2 rfl rfl) ?_
  refine norm_dead fun _ => ?_
  refine norm_st 1 4 (vec2 rfl rfl) rfl rfl ?_
  refine norm_l 1 5 (vec2 rfl rfl) ?_
  refine norm_o 1 5 (vec2 rfl rfl) ?_
  refine norm_dead fun _ => ?_
  refine norm_st 1 5 (vec2 rfl rfl) rfl rfl ?_
  refine norm_l 1 6 (vec2 rfl rfl) ?_
  refine norm_o 1 6 (vec2 rfl rfl) ?_
  refine norm_dead fun _ => ?_
  refine norm_st 1 6 (vec2 rfl rfl) rfl rfl ?_
  refine norm_l 1 7 (vec2 rfl rfl) ?_
  refine norm_o 1 7 (vec2 rfl rfl) ?_
  refine norm_dead fun _ => ?_
  refine norm_st 1 7 (vec2 rfl rfl) rfl rfl ?_
  refine norm_l 2 0 (vec2 rfl rfl) ?_
  exact H

set_option maxRecDepth 65536 in
set_option maxHeartbeats 4000000 in
/-- Part 46: from 16 steps stored to 20. -/
theorem part46 {Q : α → sProp 𝕄} {R : sProp 𝕄} (k : (Vec F S256x1 .f32) → Prog (TpuEff nD τ sig (Elt F) Λ₀ .tc) α)
    (H : NS m ρ c 20 R ⊢ WP c (k (totL m ρ c 2 4)) Q) :
    NS m ρ c 16 R ⊢ WP c (k0_part46 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (totL m ρ c 2 0) >>= k) Q := by
  rw [k0_part46_eq_skeleton]; unfold k0_part46_skel
  simp only [Prog.lift, Prog.bind_op, Prog.bind_ret, Prog.pure_eq_ret]
  refine norm_o 2 0 (vec2 rfl rfl) ?_
  refine norm_dead fun _ => ?_
  refine norm_st 2 0 (vec2 rfl rfl) rfl rfl ?_
  refine norm_l 2 1 (vec2 rfl rfl) ?_
  refine norm_o 2 1 (vec2 rfl rfl) ?_
  refine norm_dead fun _ => ?_
  refine norm_st 2 1 (vec2 rfl rfl) rfl rfl ?_
  refine norm_l 2 2 (vec2 rfl rfl) ?_
  refine norm_o 2 2 (vec2 rfl rfl) ?_
  refine norm_dead fun _ => ?_
  refine norm_st 2 2 (vec2 rfl rfl) rfl rfl ?_
  refine norm_l 2 3 (vec2 rfl rfl) ?_
  refine norm_o 2 3 (vec2 rfl rfl) ?_
  refine norm_dead fun _ => ?_
  refine norm_st 2 3 (vec2 rfl rfl) rfl rfl ?_
  refine norm_l 2 4 (vec2 rfl rfl) ?_
  exact H

set_option maxRecDepth 65536 in
set_option maxHeartbeats 4000000 in
/-- Part 47: from 20 steps stored to 24. -/
theorem part47 {Q : α → sProp 𝕄} {R : sProp 𝕄} (k : (Vec F S256x1 .f32) → Prog (TpuEff nD τ sig (Elt F) Λ₀ .tc) α)
    (H : NS m ρ c 24 R ⊢ WP c (k (totL m ρ c 3 0)) Q) :
    NS m ρ c 20 R ⊢ WP c (k0_part47 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (totL m ρ c 2 4) >>= k) Q := by
  rw [k0_part47_eq_skeleton]; unfold k0_part47_skel
  simp only [Prog.lift, Prog.bind_op, Prog.bind_ret, Prog.pure_eq_ret]
  refine norm_o 2 4 (vec2 rfl rfl) ?_
  refine norm_dead fun _ => ?_
  refine norm_st 2 4 (vec2 rfl rfl) rfl rfl ?_
  refine norm_l 2 5 (vec2 rfl rfl) ?_
  refine norm_o 2 5 (vec2 rfl rfl) ?_
  refine norm_dead fun _ => ?_
  refine norm_st 2 5 (vec2 rfl rfl) rfl rfl ?_
  refine norm_l 2 6 (vec2 rfl rfl) ?_
  refine norm_o 2 6 (vec2 rfl rfl) ?_
  refine norm_dead fun _ => ?_
  refine norm_st 2 6 (vec2 rfl rfl) rfl rfl ?_
  refine norm_l 2 7 (vec2 rfl rfl) ?_
  refine norm_o 2 7 (vec2 rfl rfl) ?_
  refine norm_dead fun _ => ?_
  refine norm_st 2 7 (vec2 rfl rfl) rfl rfl ?_
  refine norm_l 3 0 (vec2 rfl rfl) ?_
  exact H

set_option maxRecDepth 65536 in
set_option maxHeartbeats 4000000 in
/-- Part 48: from 24 steps stored to 28. -/
theorem part48 {Q : α → sProp 𝕄} {R : sProp 𝕄} (k : (Vec F S256x1 .f32) → Prog (TpuEff nD τ sig (Elt F) Λ₀ .tc) α)
    (H : NS m ρ c 28 R ⊢ WP c (k (totL m ρ c 3 4)) Q) :
    NS m ρ c 24 R ⊢ WP c (k0_part48 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (totL m ρ c 3 0) >>= k) Q := by
  rw [k0_part48_eq_skeleton]; unfold k0_part48_skel
  simp only [Prog.lift, Prog.bind_op, Prog.bind_ret, Prog.pure_eq_ret]
  refine norm_o 3 0 (vec2 rfl rfl) ?_
  refine norm_dead fun _ => ?_
  refine norm_st 3 0 (vec2 rfl rfl) rfl rfl ?_
  refine norm_l 3 1 (vec2 rfl rfl) ?_
  refine norm_o 3 1 (vec2 rfl rfl) ?_
  refine norm_dead fun _ => ?_
  refine norm_st 3 1 (vec2 rfl rfl) rfl rfl ?_
  refine norm_l 3 2 (vec2 rfl rfl) ?_
  refine norm_o 3 2 (vec2 rfl rfl) ?_
  refine norm_dead fun _ => ?_
  refine norm_st 3 2 (vec2 rfl rfl) rfl rfl ?_
  refine norm_l 3 3 (vec2 rfl rfl) ?_
  refine norm_o 3 3 (vec2 rfl rfl) ?_
  refine norm_dead fun _ => ?_
  refine norm_st 3 3 (vec2 rfl rfl) rfl rfl ?_
  refine norm_l 3 4 (vec2 rfl rfl) ?_
  exact H

set_option maxRecDepth 65536 in
set_option maxHeartbeats 4000000 in
/-- Part 49: from 28 steps stored to 32. -/
theorem part49 {Q : α → sProp 𝕄} {R : sProp 𝕄} (k : (Vec F S1024x1024 .bf16) → Prog (TpuEff nD τ sig (Elt F) Λ₀ .tc) α)
    (H : iprop(whole c cc0_scratch3 (attnA m ρ c) ∗ whole c cc0_scratch1 (tot m ρ c) ∗ R) ⊢ WP c (k (attnA m ρ c)) Q) :
    NS m ρ c 28 R ⊢ WP c (k0_part49 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 (totL m ρ c 3 4) >>= k) Q := by
  rw [k0_part49_eq_skeleton]; unfold k0_part49_skel
  simp only [Prog.lift, Prog.bind_op, Prog.bind_ret, Prog.pure_eq_ret]
  refine norm_o 3 4 (vec2 rfl rfl) ?_
  refine norm_dead fun _ => ?_
  refine norm_st 3 4 (vec2 rfl rfl) rfl rfl ?_
  refine norm_l 3 5 (vec2 rfl rfl) ?_
  refine norm_o 3 5 (vec2 rfl rfl) ?_
  refine norm_dead fun _ => ?_
  refine norm_st 3 5 (vec2 rfl rfl) rfl rfl ?_
  refine norm_l 3 6 (vec2 rfl rfl) ?_
  refine norm_o 3 6 (vec2 rfl rfl) ?_
  refine norm_dead fun _ => ?_
  refine norm_st 3 6 (vec2 rfl rfl) rfl rfl ?_
  refine norm_l 3 7 (vec2 rfl rfl) ?_
  refine norm_o 3 7 (vec2 rfl rfl) ?_
  refine norm_dead fun _ => ?_
  refine norm_st 3 7 (vec2 rfl rfl) rfl rfl ?_
  refine norm_all (off2 rfl rfl) ?_
  exact H

end Parts

end Cert.Attn

end
-- ==== Proof.Start.lean ====
/-
# The barrier, the queries and the first packet

The kernel's start: the barrier with both neighbours, the projection of the queries, and the end of the device's own
sums, where the first packet is put into slot 0.
-/
module

public import proofs.«01_k».proof.Proof.Norm

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The barrier -/

/-- A device's positions at its own cells, the tokens of the ring and the launch's credits of the ring. -/
def Own0 (c : Dev nD) : sProp 𝕄 :=
  iprop((At (sendCell 0 c) 0 ∗ At (sendCell 1 c) 0) ∗ (At (rcvCell 0 c) 0 ∗ At (rcvCell 1 c) 0) ∗ At (crCell c) 0
    ∗ TokS c 0 ∗ TokC c 0 ∗ CrdR c 0 ∗ CrdC c 0)

/-- The states around the barrier: before the signal to the left neighbour, before that to the right one, before the
    wait, and after it. -/
def B0 (K : Dev nD × Fin 6 → ℕ) (c : Dev nD) (R : sProp 𝕄) : sProp 𝕄 :=
  iprop(records m ρ K ∗ Own0 c ∗ (atPos ER (barCell c) 0 ∅ 0 ∗ cred (tallyAt (barCell c) 1 2)) ∗ dutyTok ER (barCell (prv c)) 0 true ∗ dutyTok ER (barCell (nxt c)) 0 false
    ∗ Ow c (O₀ c) ∗ slotAny c (par 0) ∗ slotAny c (par 1) ∗ R)
def B1 (K : Dev nD × Fin 6 → ℕ) (c : Dev nD) (R : sProp 𝕄) : sProp 𝕄 :=
  iprop(records m ρ K ∗ Own0 c ∗ (atPos ER (barCell c) 0 ∅ 0 ∗ cred (tallyAt (barCell c) 1 2)) ∗ dutyTok ER (barCell (nxt c)) 0 false
    ∗ Ow c (O₁ c) ∗ slotAny c (par 0) ∗ R)
def B2 (K : Dev nD × Fin 6 → ℕ) (c : Dev nD) (R : sProp 𝕄) : sProp 𝕄 :=
  iprop(records m ρ K ∗ Own0 c ∗ (atPos ER (barCell c) 0 ∅ 0 ∗ cred (tallyAt (barCell c) 1 2)) ∗ Ow c (OO 0 0 c) ∗ slotAny c (par 0) ∗ R)
def SB (K : Dev nD × Fin 6 → ℕ) (c : Dev nD) (R : sProp 𝕄) : sProp 𝕄 :=
  St m ρ K c 0 0 0 0 0 iprop(slotAny c (par 0) ∗ (slotAny (nxt c) (par (0 + 1)) ∗ reached ER (rcvCell 0 (nxt c)) (0 / 2)) ∗ At (barCell c) 1 ∗ R)

/-- What a device holds while it computes its own sums, besides the sums, queries, keys and values. -/
def Rest (K : Dev nD × Fin 6 → ℕ) (c : Dev nD) (R : sProp 𝕄) : sProp 𝕄 :=
  SB m ρ K c iprop(whole c cc0_stg0_0 (xA m ρ c) ∗ whole c cc0_stg1_0 (wqA m ρ c) ∗ R)

/-- What it holds before: the staged arguments, and its buffers with anything in them. -/
def Bufs (c : Dev nD) (R : sProp 𝕄) : sProp 𝕄 :=
  iprop(whole c cc0_stg0_0 (xA m ρ c) ∗ whole c cc0_stg1_0 (wqA m ρ c) ∗ (∃ f, whole c cc0_scratch0 f) ∗ (∃ f, whole c cc0_scratch1 f)
    ∗ whole c cc0_stg3_0 (kA m ρ c) ∗ whole c cc0_stg4_0 (vA m ρ c) ∗ R)

/-- What a device holds during the ring besides its accumulator. -/
def Held (c : Dev nD) (R : sProp 𝕄) : sProp 𝕄 :=
  iprop(whole c cc0_scratch0 (qA m ρ c) ∗ whole c cc0_stg3_0 (kA m ρ c) ∗ whole c cc0_stg4_0 (vA m ρ c) ∗ At (barCell c) 1
    ∗ whole c cc0_stg0_0 (xA m ρ c) ∗ whole c cc0_stg1_0 (wqA m ρ c) ∗ R)

section Bar
variable {m ρ} {α : Type} {c : Dev nD} {K : Dev nD × Fin 6 → ℕ}

/-- The signal to the left neighbour's barrier hands over slot 1. -/
theorem bar_left {Q : α → sProp 𝕄} {R : sProp 𝕄} {d : Dev nD} (hn : d = prv c) {s : Sem sig} (e1 : s = barS) {n : ℤ} (hn1 : n = 1)
    {k : PUnit → Prog (TpuEff nD τ sig (Elt F) Λ₀ .tc) α} (H : B1 m ρ K c R ⊢ WP c (k ⟨⟩) Q) :
    B0 m ρ K c R ⊢ WP c (.op (.semSignal (d, Proc.tc) s n) k) Q := by
  subst hn e1 hn1
  unfold B0 Own0 At Ow
  iintro ⟨#HR, ⟨HAs, ⟨⟨HA1, #Hr1⟩, HA2⟩, HC⟩, HB, Ht, Ht2, ⟨%W, HO⟩, HX, HZ, HY⟩
  iapply (Rounds.wp_signal 𝒱₀ ER (Rd m ρ) (c : Thread nD τ) none (dst := (prv c : Thread nD τ)) (κ := K (prv c, 0)) (r := 0)
      (d := true) (by rw [duties_bar]; exact Finset.mem_univ _) ((amount_bar m ρ (prv c) 0 true).trans (by decide)) 1
      (O₁ c) rfl) $$ [HO Ht HZ]
  · isplitr; · iapply (inv_bar m ρ K (prv c)); iexact HR
    isplitl [HO]; · iexact HO
    isplitl [Ht]; · iexact Ht
    isplitl [HZ]
    · rw [payload_bar_true]; unfold barPay; rw [nxt_prv]
      isplitl [HZ]; · iexact HZ
      iexact Hr1
    iapply (rec_reached m ρ K (prv c, 0)); iexact HR
  iintro HO
  iapply H
  unfold B1 Own0 At Ow
  isplitr; · iexact HR
  isplitl [HAs HA1 HA2 HC]
  · isplitl [HAs]; · iexact HAs
    isplitl [HA1 HA2]
    · isplitl [HA1]
      · isplitl [HA1]; · iexact HA1
        iexact Hr1
      iexact HA2
    iexact HC
  isplitl [HB]; · iexact HB
  isplitl [Ht2]; · iexact Ht2
  isplitl [HO]; · iexists _; iexact HO
  isplitl [HX] <;> iassumption

/-- The signal to the right neighbour's barrier. -/
theorem bar_right {Q : α → sProp 𝕄} {R : sProp 𝕄} {d : Dev nD} (hn : d = nxt c) {s : Sem sig} (e1 : s = barS) {n : ℤ} (hn1 : n = 1)
    {k : PUnit → Prog (TpuEff nD τ sig (Elt F) Λ₀ .tc) α} (H : B2 m ρ K c R ⊢ WP c (k ⟨⟩) Q) :
    B1 m ρ K c R ⊢ WP c (.op (.semSignal (d, Proc.tc) s n) k) Q := by
  subst hn e1 hn1
  unfold B1 Ow
  iintro ⟨#HR, HC, HB, Ht, ⟨%W, HO⟩, HY⟩
  iapply (Rounds.wp_signal 𝒱₀ ER (Rd m ρ) (c : Thread nD τ) none (dst := (nxt c : Thread nD τ)) (κ := K (nxt c, 0)) (r := 0)
      (d := false) (by rw [duties_bar]; exact Finset.mem_univ _) ((amount_bar m ρ (nxt c) 0 false).trans (by decide)) 1
      (OO 0 0 c) rfl) $$ [HO Ht]
  · isplitr; · iapply (inv_bar m ρ K (nxt c)); iexact HR
    isplitl [HO]; · iexact HO
    isplitl [Ht]; · iexact Ht
    isplitr; · rw [payload_bar_false]; iempintro
    iapply (rec_reached m ρ K (nxt c, 0)); iexact HR
  iintro HO
  iapply H
  unfold B2 Ow
  isplitr; · iexact HR
  isplitl [HC]; · iexact HC
  isplitl [HB]; · iexact HB
  isplitl [HO]; · iexists _; iexact HO
  iexact HY

/-- The wait for both neighbours: the right neighbour's slot 1 comes with it. -/
theorem bar_wait {Q : α → sProp 𝕄} {R : sProp 𝕄} {s : Sem sig} (e1 : s = barS) {n : ℤ} (hn1 : n = 2)
    {k : PUnit → Prog (TpuEff nD τ sig (Elt F) Λ₀ .tc) α} (H : SB m ρ K c R ⊢ WP c (k ⟨⟩) Q) :
    B2 m ρ K c R ⊢ WP c (.op (.semWait s n) k) Q := by
  subst e1 hn1
  unfold B2 Ow Own0
  iintro ⟨#HR, ⟨HAs, HAr, HA, HtS, HtC, HcR, HcC⟩, ⟨HB, Hc⟩, ⟨%W, HO⟩, HX, HY⟩
  iapply (Rounds.wp_wait_rest_token 𝒱₀ ER (Rd m ρ) (c : Thread nD τ) none (κ := K (c, 0))
      (wpE_semWait_eq 𝒱₀ (c : Thread nD τ) none Set.univ) (Set.mem_univ _) 1 (O := OO 0 0 c) (W := W) (R := 0) (m := 0) (T := ∅)
      (by rw [expect_bar])) $$ [Hc HO HB]
  · isplitr; · iapply (inv_bar m ρ K c); iexact HR
    isplitl [Hc]; · iexact Hc
    isplitl [HO]; · iexact HO
    isplitr; · iapply (rec_wait m ρ K c _ 1 0 0 (by decide) (by omega) (by omega)); iexact HR
    iexact HB
  iintro ⟨HO, HA1, Hr, Hpay⟩
  ihave Hp := (Entails.of_eq (rest_bar m ρ c)) $$ Hpay
  unfold barPay
  icases Hp with ⟨-, Hp, Hrc⟩
  iapply H
  unfold SB St Ow
  isplitr; · iexact HR
  isplitl [HAs]; · iexact HAs
  isplitl [HAr]; · iexact HAr
  isplitl [HA]; · iexact HA
  isplitl [HtS]; · iexact HtS
  isplitl [HtC]; · iexact HtC
  isplitl [HcR]; · iexact HcR
  isplitl [HcC]; · iexact HcC
  isplitl [HO]; · iexists _; iexact HO
  isplitl [HX]; · iexact HX
  isplitl [Hp Hrc]
  · isplitl [Hp] <;> iassumption
  isplitl [HA1 Hr]
  · unfold At
    isplitl [HA1] <;> iassumption
  iexact HY

end Bar

/-! ## The queries, and the first packet -/

section Parts
variable {m ρ} {α : Type} {c : Dev nD} {K : Dev nD × Fin 6 → ℕ}

/-- Loading the activations. -/
theorem load_x {Q : α → sProp 𝕄} {R : sProp 𝕄} {off : Fin 3 → ℕ} {inb hl}
    {k : (S4x256x1024.Idx → Elt F .bf16) → Prog (TpuEff nD τ sig (Elt F) Λ₀ .tc) α} (hoff : off = fun _ => 0)
    (H : SB m ρ K c (Bufs m ρ c R) ⊢ WP c (k (xA m ρ c)) Q) :
    SB m ρ K c (Bufs m ρ c R) ⊢ WP c (.op (.load (Memref.whole cc0_stg0_0) (Rect.unit (s := S4x256x1024) off S4x256x1024.size inb).toLoadRect hl) k) Q := by
  have e : (Memref.whole cc0_stg0_0).view.readAt (Elt F) (Rect.unit (s := S4x256x1024) off S4x256x1024.size inb).toLoadRect (xA m ρ c) = xA m ρ c :=
    Memref.readAt_unit_zero (Elt F) cc0_stg0_0 hoff inb _
  refine load_of (f := xA m ρ c) (R := SB m ρ K c iprop(whole c cc0_stg1_0 (wqA m ρ c) ∗ (∃ f, whole c cc0_scratch0 f) ∗ (∃ f, whole c cc0_scratch1 f)
    ∗ whole c cc0_stg3_0 (kA m ρ c) ∗ whole c cc0_stg4_0 (vA m ρ c) ∗ R)) ?_ ?_
  · unfold SB St Bufs; iintro ⟨H1, H2, H3, H4, H5, H6, H7, H8, H9, HX, HN, HB, HY, HZ⟩; isplitl [HY]; · iexact HY
    iframe
  · rw [e]; refine etrans ?_ H
    unfold SB St Bufs; iintro ⟨HY, H1, H2, H3, H4, H5, H6, H7, H8, H9, HX, HN, HB, HZ⟩; iframe

/-- Loading the query weights. -/
theorem load_wq {Q : α → sProp 𝕄} {R : sProp 𝕄} {off : Fin 2 → ℕ} {inb hl}
    {k : (S1024x1024.Idx → Elt F .bf16) → Prog (TpuEff nD τ sig (Elt F) Λ₀ .tc) α} (hoff : off = fun _ => 0)
    (H : SB m ρ K c (Bufs m ρ c R) ⊢ WP c (k (wqA m ρ c)) Q) :
    SB m ρ K c (Bufs m ρ c R) ⊢ WP c (.op (.load (Memref.whole cc0_stg1_0) (Rect.unit (s := S1024x1024) off S1024x1024.size inb).toLoadRect hl) k) Q := by
  have e : (Memref.whole cc0_stg1_0).view.readAt (Elt F) (Rect.unit (s := S1024x1024) off S1024x1024.size inb).toLoadRect (wqA m ρ c) = wqA m ρ c :=
    Memref.readAt_unit_zero (Elt F) cc0_stg1_0 hoff inb _
  refine load_of (f := wqA m ρ c) (R := SB m ρ K c iprop(whole c cc0_stg0_0 (xA m ρ c) ∗ (∃ f, whole c cc0_scratch0 f) ∗ (∃ f, whole c cc0_scratch1 f)
    ∗ whole c cc0_stg3_0 (kA m ρ c) ∗ whole c cc0_stg4_0 (vA m ρ c) ∗ R)) ?_ ?_
  · unfold SB St Bufs; iintro ⟨H1, H2, H3, H4, H5, H6, H7, H8, H9, HX, HN, HB, HW, HY, HZ⟩; isplitl [HY]; · iexact HY
    iframe
  · rw [e]; refine etrans ?_ H
    unfold SB St Bufs; iintro ⟨HY, H1, H2, H3, H4, H5, H6, H7, H8, H9, HX, HN, HB, HW, HZ⟩; iframe

/-- A load from the buffer of queries of which nothing is read. -/
theorem dead_q {Q : α → sProp 𝕄} {R : sProp 𝕄} {r : Rect S1024x1024} {hl} {k : (r.shape.Idx → Elt F .bf16) → Prog (TpuEff nD τ sig (Elt F) Λ₀ .tc) α}
    (H : ∀ x, SB m ρ K c (Bufs m ρ c R) ⊢ WP c (k x) Q) :
    SB m ρ K c (Bufs m ρ c R) ⊢ WP c (.op (.load (Memref.whole cc0_scratch0) r.toLoadRect hl) k) Q := by
  unfold SB St Bufs at H ⊢
  iintro ⟨H1, H2, H3, H4, H5, H6, H7, H8, H9, HX, HN, HB, HW, HY, ⟨%f, HQ⟩, HZ⟩
  iapply (wp_load 𝒱₀ (c : Thread nD τ) none Set.univ (m := Memref.whole cc0_scratch0) (Finset.subset_univ _)) $$ HQ
  iintro HQ
  iapply (H _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HX]; · iexact HX
  isplitl [HN]; · iexact HN
  isplitl [HB]; · iexact HB
  isplitl [HW]; · iexact HW
  isplitl [HY]; · iexact HY
  isplitl [HQ]; · iexists f; iexact HQ
  iexact HZ

/-- Storing the queries: the device is ready to compute its own sums. -/
theorem store_q {Q : α → sProp 𝕄} {R : sProp 𝕄} {off : Fin 2 → ℕ} {inb hx hm} {w : S1024x1024.Idx → Elt F .bf16} {k : PUnit → Prog (TpuEff nD τ sig (Elt F) Λ₀ .tc) α}
    (hoff : off = fun _ => 0) (hw : w = qA m ρ c) (H : OS m ρ c 0 (Rest m ρ K c R) ⊢ WP c (k ⟨⟩) Q) :
    SB m ρ K c (Bufs m ρ c R) ⊢ WP c (.op (.store (Memref.whole cc0_scratch0) (Rect.unit (s := S1024x1024) off S1024x1024.size inb) w Finset.univ hx hm) k) Q := by
  subst hw
  have e : ∀ f, ((Memref.whole cc0_scratch0).access (Rect.unit (s := S1024x1024) off S1024x1024.size inb)).write (Elt F) f (qA m ρ c) Finset.univ = qA m ρ c := fun f =>
    Memref.write_access_unit_zero_univ (Elt F) cc0_scratch0 hoff inb f _
  unfold OS accP Rest SB St at H
  unfold SB St Bufs
  iintro ⟨H1, H2, H3, H4, H5, H6, H7, H8, H9, HX, HN, HB, HW, HY, ⟨%f, HQ⟩, ⟨%g, HA⟩, HK, HV, HZ⟩
  iapply (wp_store 𝒱₀ (c : Thread nD τ) none Set.univ (m := Memref.whole cc0_scratch0) (r := Rect.unit (s := S1024x1024) off S1024x1024.size inb) (Mk := Finset.univ) (Finset.subset_univ _)) $$ HQ
  rw [e f]
  iintro HQ
  iapply H
  isplitl [HA]
  · iexists g
    isplitr; · ipureintro; exact fun i hi => absurd hi (Nat.not_lt_zero _)
    iexact HA
  isplitl [HQ]; · iexact HQ
  isplitl [HK]; · iexact HK
  isplitl [HV]; · iexact HV
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HX]; · iexact HX
  isplitl [HN]; · iexact HN
  isplitl [HB]; · iexact HB
  isplitl [HW]; · iexact HW
  isplitl [HY] <;> iassumption

set_option maxRecDepth 65536 in
set_option maxHeartbeats 4000000 in
/-- Part 1: the barrier and the queries. -/
theorem part1 {Q : α → sProp 𝕄} {R : sProp 𝕄} (k : (Σ' (d0 : Dev nD) (v5 : BitVec 32) (v7 : BitVec 32), Vec F S256x128 .bf16) → Prog (TpuEff nD τ sig (Elt F) Λ₀ .tc) α)
    (H : ∀ v5 v7, OS m ρ c 0 (Rest m ρ K c R) ⊢ WP c (k ⟨c, v5, v7, qB m ρ c 0 0⟩) Q) :
    B0 m ρ K c (Bufs m ρ c R) ⊢ WP c (k0_part1 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 >>= k) Q := by
  rw [k0_part1_eq_skeleton]; unfold k0_part1_skel
  simp only [semSignalWord, semWaitWord, Prog.lift, Prog.bind_op, Prog.bind_ret, Prog.pure_eq_ret, wp_deviceId]
  refine bar_left (Fin.ext (k0_dev1_eq c)) rfl rfl ?_
  refine bar_right (Fin.ext (k0_dev2_eq c)) rfl rfl ?_
  refine bar_wait rfl rfl ?_
  refine load_x (off3 rfl rfl rfl) ?_
  refine load_wq (off2 rfl rfl) ?_
  refine dead_q fun _ => ?_
  refine store_q (off2 rfl rfl) rfl ?_
  refine own_q 0 0 (vec2 rfl rfl) ?_
  exact H _ _

/-- The last load of the accumulator before the ring. -/
theorem own_all {Q : α → sProp 𝕄} {R : sProp 𝕄} {off : Fin 2 → ℕ} {inb hl}
    {k : (S1024x1152.Idx → Elt F .f32) → Prog (TpuEff nD τ sig (Elt F) Λ₀ .tc) α} (hoff : off = fun _ => 0)
    (H : iprop(whole c cc0_scratch1 (accOwn m ρ c) ∗ whole c cc0_scratch0 (qA m ρ c) ∗ whole c cc0_stg3_0 (kA m ρ c) ∗ whole c cc0_stg4_0 (vA m ρ c) ∗ R) ⊢ WP c (k (accOwn m ρ c)) Q) :
    OS m ρ c 68 R ⊢ WP c (.op (.load (Memref.whole cc0_scratch1) (Rect.unit (s := S1024x1152) off S1024x1152.size inb).toLoadRect hl) k) Q := by
  have e : (Memref.whole cc0_scratch1).view.readAt (Elt F) (Rect.unit (s := S1024x1152) off S1024x1152.size inb).toLoadRect (accOwn m ρ c) = accOwn m ρ c :=
    Memref.readAt_unit_zero (Elt F) cc0_scratch1 hoff inb _
  refine load_of (f := accOwn m ρ c) (R := iprop(whole c cc0_scratch0 (qA m ρ c) ∗ whole c cc0_stg3_0 (kA m ρ c) ∗ whole c cc0_stg4_0 (vA m ρ c) ∗ R)) ?_ ?_
  rotate_left
  · rw [e]; exact H
  · unfold OS; exact sep_mono_left own_done

set_option maxRecDepth 65536 in
set_option maxHeartbeats 4000000 in
/-- Part 21: the last sums, and the packet. -/
theorem part21 {Q : α → sProp 𝕄} {R : sProp 𝕄} (v7 : BitVec 32) (k : PUnit → Prog (TpuEff nD τ sig (Elt F) Λ₀ .tc) α)
    (H : S0 m ρ K c 0 iprop(whole c cc0_scratch1 (accAt m ρ c 0) ∗ Held m ρ c R) ⊢ WP c (k ⟨⟩) Q) :
    OS m ρ c 65 (Rest m ρ K c R) ⊢ WP c (k0_part21 (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 v7 (qB m ρ c 3 7) >>= k) Q := by
  rw [k0_part21_eq_skeleton]; unfold k0_part21_skel
  simp only [Prog.lift, Prog.bind_op, Prog.bind_ret, Prog.pure_eq_ret]
  refine own_k 3 7 (vec4 rfl rfl rfl rfl) ?_
  refine own_v 3 7 (vec4 rfl rfl rfl rfl) ?_
  refine own_dead fun _ => ?_
  refine own_o 3 7 (vec2 rfl rfl) (by decide) rfl ?_
  refine own_dead fun _ => ?_
  refine own_l 3 7 (vec2 rfl rfl) (by decide) rfl ?_
  refine own_dead fun _ => ?_
  refine own_z 3 (vec2 rfl rfl) (by decide) rfl ?_
  refine own_all (off2 rfl rfl) ?_
  refine slot_dead (par 0) (R := iprop(whole c cc0_scratch1 (accOwn m ρ c) ∗ St m ρ K c 0 0 0 0 0
    iprop((slotAny (nxt c) (par (0 + 1)) ∗ reached ER (rcvCell 0 (nxt c)) (0 / 2)) ∗ Held m ρ c R))) (vec3 rfl rfl rfl) ?_ fun _ => ?_
  · unfold Rest SB St Held
    iintro ⟨HA, HQ, HK, HV, H1, H2, H3, H4, H5, H6, H7, H8, H9, HX, HN, HB, HY, HW, HZ⟩
    isplitl [HX]; · iexact HX
    isplitl [HA]; · iexact HA
    iframe
  refine slot_store (par 0) (R := iprop(whole c cc0_scratch1 (accOwn m ρ c) ∗ St m ρ K c 0 0 0 0 0
    iprop((slotAny (nxt c) (par (0 + 1)) ∗ reached ER (rcvCell 0 (nxt c)) (0 / 2)) ∗ Held m ρ c R))) (vec3 rfl rfl rfl) (Entails.refl _) ?_
  refine etrans ?_ H
  unfold S0 St
  iintro ⟨HX, HA, H1, H2, H3, H4, H5, H6, H7, H8, H9, HN, HZ⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HX]; · iexact HX
  isplitl [HN]; · iexact HN
  isplitl [HA]; · iexact HA
  iexact HZ

end Parts

end Cert.Attn

end
-- ==== Proof.Body.lean ====
/-
# The kernel's body

The parts of the kernel put together: from what the launch hands a device to its result in the staging buffer, every
semaphore at zero.
-/
module

public import proofs.«01_k».proof.Proof.Start

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

/-- What the launch hands every device, besides the levels: the invariants of all cells and that they have reached round 0. -/
def rec0 (K : Dev nD × Fin 6 → ℕ) : sProp 𝕄 :=
  iprop((bigSep Finset.univ fun ck : Dev nD × Fin 6 => cellInv ER (Rd m ρ) (K ck) (kcell ck))
    ∗ (bigSep Finset.univ fun ck : Dev nD × Fin 6 => reached ER (kcell ck) 0))

instance rec0_persistent (K : Dev nD × Fin 6 → ℕ) : BI.Persistent (rec0 m ρ K) := by unfold rec0; infer_instance

/-- A device's positions and tokens. -/
def lin (c : Dev nD) : sProp 𝕄 :=
  iprop(atPos ER (barCell c) 0 ∅ 0 ∗ (At (sendCell 0 c) 0 ∗ At (sendCell 1 c) 0) ∗ (At (rcvCell 0 c) 0 ∗ At (rcvCell 1 c) 0) ∗ At (crCell c) 0
    ∗ TokS c 0 ∗ TokC c 0 ∗ dutyTok ER (barCell (prv c)) 0 true ∗ dutyTok ER (barCell (nxt c)) 0 false)

/-- Its launch credits. -/
def crds (c : Dev nD) : sProp 𝕄 := iprop(cred (tallyAt (barCell c) 1 2) ∗ CrdR c 0 ∗ CrdC c 0)

/-- What the body starts from. -/
def start (c : Dev nD) : sProp 𝕄 := iprop((∃ K, rec0 m ρ K ∗ lin c) ∗ crds c ∗ levAts L lv)

/-- The four scratch buffers, with anything in them. -/
def scratch (c : Dev nD) : sProp 𝕄 :=
  iprop((∃ f, whole c cc0_scratch0 f) ∗ (∃ f, whole c cc0_scratch1 f) ∗ (∃ f, whole c cc0_scratch2 f) ∗ (∃ f, whole c cc0_scratch3 f))

/-- The kernel's own semaphores at zero. -/
def zeros (c : Dev nD) : sProp 𝕄 :=
  iprop(semVal (kcell (c, 1)) 0 ∗ semVal (kcell (c, 2)) 0 ∗ semVal (kcell (c, 3)) 0 ∗ semVal (kcell (c, 4)) 0 ∗ semVal (kcell (c, 5)) 0)

def Φ₀ (c : Dev nD) : sProp 𝕄 := iprop(start m ρ c ∗ scratch c)
def Φ₁ (c : Dev nD) : sProp 𝕄 := iprop(scratch c ∗ zeros c ∗ semVal (kcell (c, 0)) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The launch's data: the arrays as they are, the staged blocks after the body, the state before and after it, and what is
    owed then. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xA m ρ c
    | ⟨1, _⟩ => wqA m ρ c
    | ⟨2, _⟩ => woA m ρ c
    | ⟨3, _⟩ => kA m ρ c
    | ⟨4, _⟩ => vA m ρ c
    | ⟨5, _⟩ => outA m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- The slots together are the communication buffer. -/
theorem slots_join (c : Dev nD) : iprop(slotAny c (par 15) ∗ slotAny c (par 14)) ⊢ (∃ f, whole c cc0_scratch2 f : sProp 𝕄) := by
  have h1 : par 15 = 1 := rfl
  have h0 : par 14 = 0 := rfl
  rw [h1, h0]
  unfold slotAny slotPts
  iintro ⟨⟨%f, H1⟩, ⟨%g, H0⟩⟩
  iexists (fun i => if i ∈ slotSet 0 then g i else f i)
  have e0 : (((c : Thread nD τ).loc cc0_scratch2 ↦[slotSet 0]{fullShare} g : sProp 𝕄))
      = ((c : Thread nD τ).loc cc0_scratch2 ↦[slotSet 0]{fullShare} fun i => if i ∈ slotSet 0 then g i else f i) :=
    pointsTo_congr fun i hi => (if_pos hi).symm
  have e1 : (((c : Thread nD τ).loc cc0_scratch2 ↦[slotSet 1]{fullShare} f : sProp 𝕄))
      = ((c : Thread nD τ).loc cc0_scratch2 ↦[slotSet 1]{fullShare} fun i => if i ∈ slotSet 0 then g i else f i) :=
    pointsTo_congr fun i hi => (if_neg fun h => (Finset.disjoint_left.mp (slots_disjoint 0) h) hi).symm
  have e : iprop(((c : Thread nD τ).loc cc0_scratch2 ↦[slotSet 0]{fullShare} g) ∗ ((c : Thread nD τ).loc cc0_scratch2 ↦[slotSet 1]{fullShare} f))
      ⊢ (whole c cc0_scratch2 (fun i => if i ∈ slotSet 0 then g i else f i) : sProp 𝕄) := by
    unfold whole
    rw [← slots_univ, e0, e1]
    exact (pointsTo_union (slots_disjoint 0)).2
  iapply e
  isplitl [H0] <;> iassumption

/-- The communication buffer is its two slots. -/
theorem slots_split (c : Dev nD) : (∃ f, whole c cc0_scratch2 f : sProp 𝕄) ⊢ iprop(slotAny c (par 0) ∗ slotAny c (par 1)) := by
  have h1 : par 1 = 1 := rfl
  have h0 : par 0 = 0 := rfl
  rw [h1, h0]
  unfold slotAny slotPts whole
  iintro ⟨%f, H⟩
  rw [← slots_univ]
  ihave H' := (pointsTo_union (slots_disjoint 0)).1 $$ H
  icases H' with ⟨H0, H1⟩
  isplitl [H0]
  · iexists f; iexact H0
  iexists f; iexact H1

/-- A cell whose rounds are over closes: its counter is at zero. -/
theorem close_at (K : Dev nD × Fin 6 → ℕ) (ck : Dev nD × Fin 6) (R : ℕ) (hR : rounds ck.2.val ≤ R) :
    iprop(records m ρ K ∗ At (kcell ck) R) ⊢ (|={Set.univ}=> semVal (kcell ck) 0 : sProp 𝕄) := by
  unfold At
  iintro ⟨#HR, HA, -⟩
  imod (Rounds.cell_close ER (Rd m ρ) (Set.mem_univ (K ck)) (fun h => h) (R := R) (duties_late m ρ (kcell ck) ck.2.val R (kindOf_csem ck.2) hR)) $$ [HA] with Hz
  · isplitr; · iapply (rec_inv m ρ K ck); iexact HR
    iexact HA
  imodintro; iexact Hz

/-- What a device holds after the ring, besides the accumulator and the normalised block. -/
def Done (K : Dev nD × Fin 6 → ℕ) (c : Dev nD) : sProp 𝕄 :=
  S3 m ρ K c 14 (Held m ρ c iprop(whole c cc0_stg2_0 (woA m ρ c) ∗ (∃ f, whole c cc0_stg5_0 f)))

/-- The ring is over: the normalisation can start. -/
theorem ring_done (K : Dev nD × Fin 6 → ℕ) (c : Dev nD) :
    S3 m ρ K c 14 iprop(whole c cc0_scratch1 (accAt m ρ c 15) ∗ Held m ρ c iprop(whole c cc0_stg2_0 (woA m ρ c) ∗ (∃ f, whole c cc0_stg5_0 f) ∗ (∃ f, whole c cc0_scratch3 f)))
      ⊢ NS m ρ c 0 (Done m ρ K c) := by
  unfold NS attnP Done S3 St Held
  iintro ⟨H1, H2, H3, H4, H5, H6, H7, H8, H9, HX, HC, HA, HQ, HK, HV, HB, HY, HW, HO, HT, ⟨%f, HS⟩⟩
  isplitl [HS]
  · iexists f
    isplitr; · ipureintro; exact fun i hi => absurd hi (Nat.not_lt_zero _)
    iexact HS
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HX]; · iexact HX
  isplitl [HC]; · iexact HC
  isplitl [HQ]; · iexact HQ
  isplitl [HK]; · iexact HK
  isplitl [HV]; · iexact HV
  isplitl [HB]; · iexact HB
  isplitl [HY]; · iexact HY
  isplitl [HW]; · iexact HW
  isplitl [HO] <;> iassumption

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))

def bodyPost (c : Dev nD) : sProp 𝕄 :=
  iprop(Φ₁ c ∗ (dats m ρ 0 c).owesAt 0 t₀.succ ∗ stg c cc0_stg0_0 (xA m ρ c) ∗ stg c cc0_stg1_0 (wqA m ρ c) ∗ stg c cc0_stg2_0 (woA m ρ c)
    ∗ stg c cc0_stg3_0 (kA m ρ c) ∗ stg c cc0_stg4_0 (vA m ρ c) ∗ stg c cc0_stg5_0 (outA m ρ c))

set_option maxHeartbeats 1000000 in
/-- The end: every cell closes, and the buffers are as the launch wants them. -/
theorem body_end (K : Dev nD × Fin 6 → ℕ) (c : Dev nD) :
    iprop(whole c cc0_scratch3 (attnA m ρ c) ∗ whole c cc0_scratch1 (tot m ρ c)
      ∗ S3 m ρ K c 14 (Held m ρ c iprop(whole c cc0_stg2_0 (woA m ρ c) ∗ whole c cc0_stg5_0 (outA m ρ c))))
      ⊢ (|={Set.univ}=> bodyPost m ρ c : sProp 𝕄) := by
  unfold S3 St Held Ow
  rw [OO_end]
  iintro ⟨HS, HA, #HR, ⟨Hs1, Hs0⟩, ⟨Hr0, Hr1⟩, Hcr, -, -, -, -, ⟨%W, HO⟩, HX, ⟨-, HX'⟩, HQ, HK, HV, HB, HY, HW, HO2, HT⟩
  imod (close_at m ρ K (c, 0) 1 (show rounds 0 ≤ 1 by decide)) $$ [HB] with HzB
  · isplitr; · iexact HR
    iexact HB
  imod (close_at m ρ K (c, 1) 14 (show rounds 1 ≤ 14 by decide)) $$ [Hcr] with Hz1
  · isplitr; · iexact HR
    iexact Hcr
  imod (close_at m ρ K (c, 2) 8 (show rounds 2 ≤ 8 by decide)) $$ [Hs0] with Hz2
  · isplitr; · iexact HR
    iexact Hs0
  imod (close_at m ρ K (c, 3) 7 (show rounds 3 ≤ 7 by decide)) $$ [Hs1] with Hz3
  · isplitr; · iexact HR
    iexact Hs1
  imod (close_at m ρ K (c, 4) 7 (show rounds 4 ≤ 7 by decide)) $$ [Hr0] with Hz4
  · isplitr; · iexact HR
    iexact Hr0
  imod (close_at m ρ K (c, 5) 8 (show rounds 5 ≤ 8 by decide)) $$ [Hr1] with Hz5
  · isplitr; · iexact HR
    iexact Hr1
  ihave HX := (slotX_any c (par (14 + 1)) _) $$ HX
  ihave HX' := (slotX_any c (par 14) _) $$ HX'
  ihave HC := (slots_join (F := F) c) $$ [HX HX']
  · isplitl [HX] <;> iassumption
  imodintro
  unfold bodyPost Φ₁ Dat.owesAt Pipeline.owesWithin scratch zeros stg
  rw [show (dats m ρ 0 c).owed t₀.succ = 0 from rfl]
  isplitl [HQ HA HC HS Hz1 Hz2 Hz3 Hz4 Hz5 HzB]
  · isplitl [HQ HA HC HS]
    · isplitl [HQ]; · iexists _; iexact HQ
      isplitl [HA]; · iexists _; iexact HA
      isplitl [HC]; · iexact HC
      iexists _; iexact HS
    isplitr [HzB]
    · isplitl [Hz1]; · iexact Hz1
      isplitl [Hz2]; · iexact Hz2
      isplitl [Hz3]; · iexact Hz3
      isplitl [Hz4] <;> iassumption
    iexact HzB
  isplitl [HO]
  · iexists W
    isplitr; · ipureintro; exact fun _ _ => Or.inl trivial
    iexact HO
  isplitl [HY]; · iexists _; isplitr; · (ipureintro; rfl)
                  iexact HY
  isplitl [HW]; · iexists _; isplitr; · (ipureintro; rfl)
                  iexact HW
  isplitl [HO2]; · iexists _; isplitr; · (ipureintro; rfl)
                   iexact HO2
  isplitl [HK]; · iexists _; isplitr; · (ipureintro; rfl)
                  iexact HK
  isplitl [HV]; · iexists _; isplitr; · (ipureintro; rfl)
                  iexact HV
  iexists _; isplitr; · (ipureintro; rfl)
  iexact HT

/-- The last product: the kernel's result. -/
theorem body_out (K : Dev nD × Fin 6 → ℕ) (c : Dev nD) {off2' : Fin 2 → ℕ} {off3' : Fin 3 → ℕ} {inb2 inb3 hl2 hl3 hx hm} (h2 : off2' = fun _ => 0) (h3 : off3' = fun _ => 0) :
    iprop(whole c cc0_scratch3 (attnA m ρ c) ∗ whole c cc0_scratch1 (tot m ρ c) ∗ Done m ρ K c)
      ⊢ WP c (.op (.load (Memref.whole cc0_stg2_0) (Rect.unit (s := S1024x1024) off2' S1024x1024.size inb2).toLoadRect hl2) fun x =>
          .op (.load (Memref.whole cc0_stg5_0) (Rect.unit (s := S4x256x1024) off3' S4x256x1024.size inb3).toLoadRect hl3) fun _ =>
          .op (.store (Memref.whole cc0_stg5_0) (Rect.unit (s := S4x256x1024) off3' S4x256x1024.size inb3) (k0_pay1 (attnA m ρ c) x) Finset.univ hx hm) fun x => .ret x)
        (fun _ => bodyPost m ρ c) := by
  have e2 : (Memref.whole cc0_stg2_0).view.readAt (Elt F) (Rect.unit (s := S1024x1024) off2' S1024x1024.size inb2).toLoadRect (woA m ρ c) = woA m ρ c :=
    Memref.readAt_unit_zero (Elt F) cc0_stg2_0 h2 inb2 _
  have e5 : ∀ f, ((Memref.whole cc0_stg5_0).access (Rect.unit (s := S4x256x1024) off3' S4x256x1024.size inb3)).write (Elt F) f (outA m ρ c) Finset.univ = outA m ρ c := fun f =>
    Memref.write_access_unit_zero_univ (Elt F) cc0_stg5_0 h3 inb3 f _
  have He := body_end m ρ K c
  unfold S3 St Held at He
  unfold Done S3 St Held
  iintro ⟨HS, HA, H1, H2, H3, H4, H5, H6, H7, H8, H9, HX, HC, HQ, HK, HV, HB, HY, HW, HO, ⟨%f, HT⟩⟩
  iapply (wp_load 𝒱₀ (c : Thread nD τ) none Set.univ (m := Memref.whole cc0_stg2_0) (Finset.subset_univ _)) $$ HO
  iintro HO
  iapply (wp_load 𝒱₀ (c : Thread nD τ) none Set.univ (m := Memref.whole cc0_stg5_0) (Finset.subset_univ _)) $$ HT
  iintro HT
  iapply (wp_store 𝒱₀ (c : Thread nD τ) none Set.univ (m := Memref.whole cc0_stg5_0) (r := Rect.unit (s := S4x256x1024) off3' S4x256x1024.size inb3) (Mk := Finset.univ) (Finset.subset_univ _)) $$ HT
  iintro HT
  rw [e2, show k0_pay1 (attnA m ρ c) (woA m ρ c) = outA m ρ c from rfl, e5 f, wp_ret]
  iapply He
  iframe

set_option maxRecDepth 65536 in
set_option maxHeartbeats 8000000 in
/-- The body from the barrier's state to the end. -/
theorem body_run (K : Dev nD × Fin 6 → ℕ) (c : Dev nD) :
    B0 m ρ K c (Bufs m ρ c iprop(whole c cc0_stg2_0 (woA m ρ c) ∗ (∃ f, whole c cc0_stg5_0 f) ∗ (∃ f, whole c cc0_scratch3 f)))
      ⊢ WP c (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6) (fun _ => bodyPost m ρ c) := by
  rw [cc0_body_eq_skeleton]; unfold cc0_body_skel
  refine part1 _ fun v5 v7 => ?_
  refine part2 _ ?_
  refine part3 _ ?_
  refine part4 _ ?_
  refine part5 _ ?_
  refine part6 _ ?_
  refine part7 _ ?_
  refine part8 _ ?_
  refine part9 _ ?_
  refine part10 _ ?_
  refine part11 _ ?_
  refine part12 _ ?_
  refine part13 _ ?_
  refine part14 _ ?_
  refine part15 _ ?_
  refine part16 _ ?_
  refine part17 _ ?_
  refine part18 _ ?_
  refine part19 _ ?_
  refine part20 _ ?_
  refine part21 v7 _ ?_
  refine part22 v7 _ ?_
  refine part23 v5 v7 _ ?_
  refine part24 v5 v7 _ ?_
  refine part25 v5 v7 _ ?_
  refine part26 v7 _ ?_
  refine part27 v5 v7 _ ?_
  refine part28 v5 v7 _ ?_
  refine part29 v5 v7 _ ?_
  refine part30 v7 _ _ ?_
  refine part31 v5 v7 _ fun _ _ => ?_
  refine part32 v5 v7 _ _ _ ?_
  refine part33 v5 v7 _ ?_
  refine part34 v7 _ ?_
  refine part35 v5 v7 _ ?_
  refine part36 v5 v7 _ ?_
  refine part37 v5 v7 _ ?_
  refine part38 v7 _ ?_
  refine part39 v5 v7 _ ?_
  refine part40 v5 v7 _ ?_
  refine part41 v7 _ ?_
  refine etrans (ring_done m ρ K c) ?_
  refine part42 _ ?_
  refine part43 _ ?_
  refine part44 _ ?_
  refine part45 _ ?_
  refine part46 _ ?_
  refine part47 _ ?_
  refine part48 _ ?_
  refine part49 _ ?_
  exact body_out m ρ K c (off2 rfl rfl) (off3 rfl rfl rfl)

theorem fetch_0 (t : Fin cfg0.N) : (cfg0.win (0 : Fin 6)).fetch t = true := by rw [fin_N t]; rfl
theorem fetch_1 (t : Fin cfg0.N) : (cfg0.win (1 : Fin 6)).fetch t = true := by rw [fin_N t]; rfl
theorem fetch_2 (t : Fin cfg0.N) : (cfg0.win (2 : Fin 6)).fetch t = true := by rw [fin_N t]; rfl
theorem fetch_3 (t : Fin cfg0.N) : (cfg0.win (3 : Fin 6)).fetch t = true := by rw [fin_N t]; rfl
theorem fetch_4 (t : Fin cfg0.N) : (cfg0.win (4 : Fin 6)).fetch t = true := by rw [fin_N t]; rfl

set_option maxHeartbeats 1000000 in
/-- What the pipeline hands the body is the barrier's state. -/
theorem body_start (c : Dev nD) : bodyPre m ρ c ⊢ (∃ K, B0 m ρ K c (Bufs m ρ c iprop(whole c cc0_stg2_0 (woA m ρ c) ∗ (∃ f, whole c cc0_stg5_0 f) ∗ (∃ f, whole c cc0_scratch3 f))) : sProp 𝕄) := by
  unfold bodyPre Φ₀ start lin crds scratch rec0 B0 Bufs Own0 records stg Ow
  iintro ⟨⟨⟨⟨%K, ⟨#HI, #Hr⟩, HB, HAs, HAr, HAc, HtS, HtC, HtP, HtN⟩, ⟨HcB, HcR, HcC⟩, #HL⟩, Hs0, Hs1, Hs2, Hs3⟩, Ho,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = xA m ρ c := by rw [hg0]; unfold Dat.before; rw [if_pos (fetch_0 t₀)]; rfl
  have h1 : g1 = wqA m ρ c := by rw [hg1]; unfold Dat.before; rw [if_pos (fetch_1 t₀)]; rfl
  have h2 : g2 = woA m ρ c := by rw [hg2]; unfold Dat.before; rw [if_pos (fetch_2 t₀)]; rfl
  have h3 : g3 = kA m ρ c := by rw [hg3]; unfold Dat.before; rw [if_pos (fetch_3 t₀)]; rfl
  have h4 : g4 = vA m ρ c := by rw [hg4]; unfold Dat.before; rw [if_pos (fetch_4 t₀)]; rfl
  subst h0 h1 h2 h3 h4
  unfold Dat.owesAt Pipeline.owesWithin
  icases Ho with ⟨%W, -, HO⟩
  rw [show (dats m ρ 0 c).owed t₀.castSucc = O₀ c from rfl]
  ihave Hsl := (slots_split (F := F) c) $$ Hs2
  icases Hsl with ⟨Hsl0, Hsl1⟩
  iexists K
  isplitr
  · isplitr; · iexact HI
    isplitr; · iexact Hr
    iexact HL
  isplitl [HAs HAr HAc HtS HtC HcR HcC]
  · isplitl [HAs]; · iexact HAs
    isplitl [HAr]; · iexact HAr
    isplitl [HAc]; · iexact HAc
    isplitl [HtS]; · iexact HtS
    isplitl [HtC]; · iexact HtC
    isplitl [HcR] <;> iassumption
  isplitl [HB HcB]
  · isplitl [HB] <;> iassumption
  isplitl [HtP]; · iexact HtP
  isplitl [HtN]; · iexact HtN
  isplitl [HO]; · iexists W; iexact HO
  isplitl [Hsl0]; · iexact Hsl0
  isplitl [Hsl1]; · iexact Hsl1
  isplitl [H0]; · iexact H0
  isplitl [H1]; · iexact H1
  isplitl [Hs0]; · iexact Hs0
  isplitl [Hs1]; · iexact Hs1
  isplitl [H3]; · iexact H3
  isplitl [H4]; · iexact H4
  isplitl [H2]; · iexact H2
  isplitl [H5]; · iexists g5; iexact H5
  iexact Hs3

/-- The body, from what the pipeline hands it to what it wants back. -/
theorem sound_body (c : Dev nD) : bodyPre m ρ c ⊢ WP c (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6) (fun _ => bodyPost m ρ c) := by
  refine etrans (body_start m ρ c) ?_
  iintro ⟨%K, H⟩
  iapply (body_run m ρ K c)
  iexact H

set_option maxRecDepth 65536 in
/-- The library's obligation on the body of device `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  exact sound_body m ρ c

end Cert.Attn

end
-- ==== Proof.Run.lean ====
/-
# The run

The launch of the kernel on the sixteen devices: the protocol's cells and tokens, the launch's credits, and the run of the
whole program.
-/
module

public import proofs.«01_k».proof.Proof.Body
public import Idealize.ShloMosaic.Lib.Pipeline.Launch
public import Idealize.ShloMosaic.Lib.Pipeline.CollectiveSegs
public import Idealize.ShloMosaic.Lib.Pipeline.Kit

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The tokens -/

theorem ownSemFacts : Pipeline.OwnSemFacts cfg0.spec osem := by decide

theorem share_eq (c : Dev nD) (w : Fin cfg0.W) : (dats m ρ 0 c).share w = fullShare := by unfold Dat.share; split <;> rfl

/-- Different indices name different cells. -/
theorem kcell_injective : Function.Injective (kcell : Dev nD × Fin 6 → GSem nD τ sig) := by
  rintro ⟨c, k⟩ ⟨c', k'⟩ h
  have h1 : c = c' := congrArg (fun g : GSem nD τ sig => g.1.1) h
  have h2 : k.val = k'.val := by
    have e : kindOf (csem k) = kindOf (csem k') := congrArg (fun g : GSem nD τ sig => kindOf g.2) h
    rwa [kindOf_csem, kindOf_csem] at e
  rw [h1, Fin.ext h2]
def ringCells : Finset (GSem nD τ sig) := Finset.univ.map ⟨kcell, kcell_injective⟩

/-- A device's tokens as minted: its barrier's two duties and its credits' by round, its sends' and arrivals' by hop. -/
def tokOf (x : Dev nD × Fin 5 × Fin 15) : GSem nD τ sig × ℕ × Bool := match x.2.1 with
  | 0 => (barCell x.1, x.2.2.val, false) | 1 => (barCell x.1, x.2.2.val, true) | 2 => (crCell x.1, x.2.2.val, false)
  | 3 => (sendCell x.2.2.val x.1, x.2.2.val / 2, false) | 4 => (rcvCell x.2.2.val x.1, x.2.2.val / 2, false)

/-- The index of a token, read back from its cell, round and name. -/
def untok (t : GSem nD τ sig × ℕ × Bool) : Dev nD × ℕ × ℕ :=
  if kindOf t.1.2 = 0 then (t.1.1.1, if t.2.2 then 1 else 0, t.2.1)
  else if kindOf t.1.2 = 1 then (t.1.1.1, 2, t.2.1)
  else if kindOf t.1.2 < 4 then (t.1.1.1, 3, 2 * t.2.1 + (kindOf t.1.2 - 2))
  else (t.1.1.1, 4, 2 * t.2.1 + (5 - kindOf t.1.2))

theorem untok_tokOf (c : Dev nD) (j : Fin 5) (i : Fin 15) : untok (tokOf (c, j, i)) = (c, j.val, i.val) := by
  match j with
  | 0 => show untok (barCell c, i.val, false) = _; unfold untok; rw [if_pos kind_bar]; rfl
  | 1 => show untok (barCell c, i.val, true) = _; unfold untok; rw [if_pos kind_bar]; rfl
  | 2 => show untok (crCell c, i.val, false) = _; unfold untok; rw [if_neg (by rw [kind_cr]; decide), if_pos kind_cr]; rfl
  | 3 =>
    show untok (sendCell i.val c, i.val / 2, false) = _
    have e : kindOf (sendCell i.val c).2 = 2 + i.val % 2 := kind_s (par i.val)
    unfold untok
    rw [e, if_neg (by omega), if_neg (by omega), if_pos (by omega)]
    exact congrArg (fun n => (c, 3, n)) (by show 2 * (i.val / 2) + (2 + i.val % 2 - 2) = i.val; omega)
  | 4 =>
    show untok (rcvCell i.val c, i.val / 2, false) = _
    have e : kindOf (rcvCell i.val c).2 = 4 + (i.val + 1) % 2 := kind_r (par (i.val + 1))
    unfold untok
    rw [e, if_neg (by omega), if_neg (by omega), if_neg (by omega)]
    exact congrArg (fun n => (c, 4, n)) (by show 2 * (i.val / 2) + (5 - (4 + (i.val + 1) % 2)) = i.val; omega)

theorem tokOf_injective : Function.Injective (tokOf : Dev nD × Fin 5 × Fin 15 → GSem nD τ sig × ℕ × Bool) := by
  rintro ⟨c, j, i⟩ ⟨c', j', i'⟩ h
  have e := (untok_tokOf c j i).symm.trans ((congrArg untok h).trans (untok_tokOf c' j' i'))
  have h1 : c = c' := congrArg Prod.fst e
  have h2 : j = j' := Fin.ext (congrArg (fun x : Dev nD × ℕ × ℕ => x.2.1) e)
  have h3 : i = i' := Fin.ext (congrArg (fun x : Dev nD × ℕ × ℕ => x.2.2) e)
  rw [h1, h2, h3]
def ringToks : Finset (GSem nD τ sig × ℕ × Bool) := Finset.univ.map ⟨tokOf, tokOf_injective⟩

/-- The launch's element: the pipeline's and the protocol's. -/
def u₀ : UU := (initOf (Pipeline.cells cfgs cellOf_inj) (Pipeline.launchToks cfgs cellOf_inj), initOf ringCells ringToks)

/-- The tokens of device `c`'s own cells. -/
def toks (c : Dev nD) : sProp 𝕄 :=
  iprop((bigSep (Finset.Ico 0 15) fun i => dutyTok ER (barCell c) i false) ∗ (bigSep (Finset.Ico 0 15) fun i => dutyTok ER (barCell c) i true)
    ∗ (bigSep (Finset.Ico 0 15) fun i => dutyTok ER (crCell c) i false) ∗ (bigSep (Finset.Ico 0 15) fun i => dutyTok ER (sendCell i c) (i / 2) false)
    ∗ bigSep (Finset.Ico 0 15) fun i => dutyTok ER (rcvCell i c) (i / 2) false)

/-- What the launch element deals device `c`. -/
def G (c : Dev nD) : sProp 𝕄 :=
  iprop((bigSep Finset.univ fun k : Fin 6 => roundState ER (Rd m ρ) (kcell (c, k)) 0)
    ∗ (bigSep Finset.univ fun k : Fin 6 => iprop(atPos ER (kcell (c, k)) 0 ∅ 0 ∗ reached ER (kcell (c, k)) 0)) ∗ toks c)

/-- What the global step makes of it. -/
def G' (c : Dev nD) : sProp 𝕄 := iprop(∃ K, rec0 m ρ K ∗ lin c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_fin15 (Φ : ℕ → sProp 𝕄) : bigSep Finset.univ (fun i : Fin 15 => Φ i.val) = bigSep (Finset.Ico 0 15) Φ := by
  have e : (Finset.univ : Finset (Fin 15)).map Fin.valEmbedding = Finset.Ico 0 15 := by decide
  rw [← e, bigSep_map]; rfl

/-- The protocol's element is every cell's state, every device's positions and tokens. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 6 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      rw [bigSep_univ_prod, bigSep_fin5]
      unfold toks
      rw [← bigSep_fin15, ← bigSep_fin15, ← bigSep_fin15, ← bigSep_fin15, ← bigSep_fin15]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own five semaphores; -/
theorem ownSems0_eq (c : Dev nD) : (Pipeline.ownSems0 (Ix := ℕ) (Name := ℕ) (U := UU) (Lvl := ℕ) (Val := Elt F) (τ := τ) osem c : sProp 𝕄) = zeros c := by
  rw [Pipeline.ownSems0_eq_of_list c osem [0, 1, 2, 3, 4] (by decide) (by decide)]; rfl
/-- the barrier is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  unfold zeros
  iintro ⟨HZ, HB⟩
  isplitl [HB] <;> iassumption

/-- Device `c`'s cells become invariants. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop(TokS c 0 ∗ TokC c 0 ∗ dutyTok ER (barCell (prv c)) 0 true ∗ dutyTok ER (barCell (nxt c)) 0 false)

/-- The tokens device `c` pays, as they are dealt around the ring. -/
def dealt (c : Dev nD) : sProp 𝕄 :=
  iprop((bigSep (Finset.Ico 0 15) fun i => dutyTok ER (barCell (nxt c)) i false) ∗ (bigSep (Finset.Ico 0 15) fun i => dutyTok ER (barCell (prv c)) i true)
    ∗ (bigSep (Finset.Ico 0 15) fun i => dutyTok ER (crCell (prv c)) i false) ∗ (bigSep (Finset.Ico 0 15) fun i => dutyTok ER (sendCell i c) (i / 2) false)
    ∗ bigSep (Finset.Ico 0 15) fun i => dutyTok ER (rcvCell i (nxt c)) (i / 2) false)

theorem dealt_pay (c : Dev nD) : (dealt c : sProp 𝕄) ⊢ payToks c := by
  unfold dealt payToks TokS TokC
  rw [bigSep_sep']
  have e1 : (bigSep (Finset.Ico 0 15) fun i => dutyTok ER (barCell (nxt c)) i false : sProp 𝕄) ⊢ dutyTok ER (barCell (nxt c)) 0 false := bigSep_elim (by decide)
  have e2 : (bigSep (Finset.Ico 0 15) fun i => dutyTok ER (barCell (prv c)) i true : sProp 𝕄) ⊢ dutyTok ER (barCell (prv c)) 0 true := bigSep_elim (by decide)
  have e3 : (bigSep (Finset.Ico 0 15) fun i => dutyTok ER (crCell (prv c)) i false : sProp 𝕄)
      ⊢ iprop(dutyTok ER (crCell (prv c)) 14 false ∗ bigSep (Finset.Ico 0 14) fun i => dutyTok ER (crCell (prv c)) i false) := by
    rw [show Finset.Ico 0 15 = insert 14 (Finset.Ico 0 14) by decide, bigSep_insert (by decide)]
    exact Entails.refl _
  iintro ⟨H1, H2, H3, H4, H5⟩
  ihave H1 := e1 $$ H1
  ihave H2 := e2 $$ H2
  ihave H3 := e3 $$ H3
  icases H3 with ⟨-, H3⟩
  isplitl [H4 H5]
  · isplitl [H4] <;> iassumption
  isplitl [H3]; · iexact H3
  isplitl [H2] <;> iassumption

/-- The tokens dealt around the ring. -/
theorem toks_around : (bigSep Finset.univ fun c : Dev nD => (toks c : sProp 𝕄)) ⊢ bigSep Finset.univ fun c : Dev nD => payToks c := by
  refine etrans ?_ (bigSep_mono fun c _ => dealt_pay c)
  unfold toks dealt
  rw [bigSep_sep', bigSep_sep', bigSep_sep', bigSep_sep', bigSep_sep', bigSep_sep', bigSep_sep', bigSep_sep',
    bigSep_univ_equiv ring (fun c : Dev nD => bigSep (Finset.Ico 0 15) fun i => (dutyTok ER (barCell c) i false : sProp 𝕄)),
    bigSep_univ_equiv ring.symm (fun c : Dev nD => bigSep (Finset.Ico 0 15) fun i => (dutyTok ER (barCell c) i true : sProp 𝕄)),
    bigSep_univ_equiv ring.symm (fun c : Dev nD => bigSep (Finset.Ico 0 15) fun i => (dutyTok ER (crCell c) i false : sProp 𝕄)),
    bigSep_univ_equiv ring (fun c : Dev nD => bigSep (Finset.Ico 0 15) fun i => (dutyTok ER (rcvCell i c) (i / 2) false : sProp 𝕄))]
  exact Entails.refl _

/-- A device's positions, and the tokens it pays with. -/
def linear (c : Dev nD) : sProp 𝕄 := iprop((bigSep Finset.univ fun k : Fin 6 => atPos ER (kcell (c, k)) 0 ∅ 0) ∗ payToks c)

theorem reached_at (ck : Dev nD × Fin 6) :
    (bigSep Finset.univ fun ck : Dev nD × Fin 6 => (reached ER (kcell ck) 0 : sProp 𝕄)) ⊢ reached ER (kcell ck) 0 := bigSep_elim (Finset.mem_univ ck)

theorem ghost_intro (K : Dev nD × Fin 6 → ℕ) (c : Dev nD) : iprop(rec0 m ρ K ∗ linear c) ⊢ G' m ρ c := by
  unfold rec0 linear payToks G' lin At
  rw [bigSep_fin6]
  iintro ⟨⟨#HI, #HR⟩, ⟨HaB, Hac, Has0, Has1, Har0, Har1⟩, HtS, HtC, HtP, HtN⟩
  iexists K
  unfold rec0
  isplitr
  · isplitr; · iexact HI
    iexact HR
  isplitl [HaB]; · iexact HaB
  isplitl [Has0 Has1]
  · isplitl [Has0]
    · isplitl [Has0]; · iexact Has0
      iapply (reached_at (F := F) (c, 2)); iexact HR
    isplitl [Has1]; · iexact Has1
    iapply (reached_at (F := F) (c, 3)); iexact HR
  isplitl [Har0 Har1]
  · isplitl [Har1]
    · isplitl [Har1]; · iexact Har1
      iapply (reached_at (F := F) (c, 5)); iexact HR
    isplitl [Har0]; · iexact Har0
    iapply (reached_at (F := F) (c, 4)); iexact HR
  isplitl [Hac]
  · isplitl [Hac]; · iexact Hac
    iapply (reached_at (F := F) (c, 1)); iexact HR
  isplitl [HtS]; · iexact HtS
  isplitl [HtC]; · iexact HtC
  isplitl [HtP] <;> iassumption

/-- A persistent fact goes to every member of a family. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 6 => iprop(∃ κ : ℕ, cellInv ER (Rd m ρ) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (Rd m ρ) κ (kcell ck) : sProp 𝕄))) $$ HI
  icases HK with ⟨%K, #HI⟩
  ihave Htk := (toks_around (F := F)) $$ Htok
  iapply (spread (R := rec0 m ρ K) fun c _ => ghost_intro m ρ K c)
  isplitr
  · unfold rec0; isplitl; · iexact HI
    iexact HR
  · iapply (Entails.of_eq (bigSep_sep' Finset.univ (fun c : Dev nD => bigSep Finset.univ fun k : Fin 6 => (atPos ER (kcell (c, k)) 0 ∅ 0 : sProp 𝕄)) payToks).symm)
    isplitl [Hat]; · iexact Hat
    iexact Htk

/-- The global step: every device's semaphores become invariants at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credits -/

/-- The credits of the launch are those the device waits for. -/
theorem creds (c : Dev nD) : (Pipeline.launchCred O₀ c : sProp 𝕄) ⊢ crds c := by
  have hO : (O₀ : Dev nD → CellTallies nD τ sig ℕ) = fun d =>
      (((∑ i ∈ Finset.Ico 0 15, tallyAt (rcvCell i (nxt d)) (2 * i + 2) N) + ∑ i ∈ Finset.Ico 0 14, tallyAt (crCell (prv d)) (2 * i + 3) 1)
        + tallyAt (barCell (nxt d)) 1 1) + tallyAt (barCell (prv d)) 1 1 := rfl
  have hR : (Pipeline.launchCred (fun d : Dev nD => ∑ i ∈ Finset.Ico 0 15, tallyAt (rcvCell i (nxt d)) (2 * i + 2) N) c : sProp 𝕄) ⊢ CrdR c 0 := by
    unfold CrdR
    rw [Pipeline.launchCred_sum (Finset.Ico 0 15) (fun (i : ℕ) (d : Dev nD) => tallyAt (rcvCell i (nxt d)) (2 * i + 2) N) c]
    exact bigSep_mono fun i _ => Pipeline.launchCred_tallyAt _ nxt prv nxt_prv prv_nxt _ _ c
  have hC : (Pipeline.launchCred (fun d : Dev nD => ∑ i ∈ Finset.Ico 0 14, tallyAt (crCell (prv d)) (2 * i + 3) 1) c : sProp 𝕄) ⊢ CrdC c 0 := by
    unfold CrdC
    rw [Pipeline.launchCred_sum (Finset.Ico 0 14) (fun (i : ℕ) (d : Dev nD) => tallyAt (crCell (prv d)) (2 * i + 3) 1) c]
    exact bigSep_mono fun i _ => Pipeline.launchCred_tallyAt _ prv nxt prv_nxt nxt_prv _ _ c
  have hN : (Pipeline.launchCred (fun d : Dev nD => tallyAt (barCell (nxt d)) 1 1) c : sProp 𝕄) ⊢ cred (tallyAt (barCell c) 1 1) :=
    Pipeline.launchCred_tallyAt _ nxt prv nxt_prv prv_nxt _ _ c
  have hP : (Pipeline.launchCred (fun d : Dev nD => tallyAt (barCell (prv d)) 1 1) c : sProp 𝕄) ⊢ cred (tallyAt (barCell c) 1 1) :=
    Pipeline.launchCred_tallyAt _ prv nxt prv_nxt nxt_prv _ _ c
  have h2 : iprop(cred (tallyAt (barCell c) 1 1) ∗ cred (tallyAt (barCell c) 1 1)) ⊢ (cred (tallyAt (barCell c) 1 2) : sProp 𝕄) := by
    have e : (tallyAt (barCell c) 1 2 : CellTallies nD τ sig ℕ) = tallyAt (barCell c) 1 1 + tallyAt (barCell c) 1 1 := (tallyAt_add (barCell c) 1 1 1).symm
    rw [e]; exact (cred_add _ _).2
  rw [hO, Pipeline.launchCred_add, Pipeline.launchCred_add, Pipeline.launchCred_add]
  unfold crds
  iintro ⟨⟨⟨HR, HC⟩, HN⟩, HP⟩
  ihave HN := hN $$ HN
  ihave HP := hP $$ HP
  isplitl [HN HP]
  · iapply h2
    isplitl [HN] <;> iassumption
  isplitl [HR]
  · iapply hR; iexact HR
  iapply hC; iexact HC

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, Hz, HzB⟩
  isplitl [HzB]; · iexact HzB
  isplitl [Hz] <;> iassumption

theorem waits (c : Dev nD) : (levAts L lv : sProp 𝕄) ⊢ Pipeline.cellsWaits cfgs (dats m ρ) 0 0 c :=
  Pipeline.cellsWaits_intro cfgs (dats m ρ) 0 0 c fun w s t =>
    mayWait_stage c _ _ (by
      rcases t with ⟨_ | _, ht⟩
      · exact Or.inl rfl
      · exact Or.inr rfl)

/-- The windows' arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values and from any memory with zero counters, every weakly fair execution of @main on the sixteen
    devices terminates; every final state has each device's arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := SiteBlocks.hL LV) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_0 (c : Dev nD) : finalA m ρ c (0 : Fin 6) = (s₀ m ρ).mem (win0_0.arr.view.loc (c : Thread nD τ)) := (dats (F := F) m ρ 0 c).arrAt_in (0 : Fin 6) rfl _
theorem finalA_1 (c : Dev nD) : finalA m ρ c (1 : Fin 6) = (s₀ m ρ).mem (win0_1.arr.view.loc (c : Thread nD τ)) := (dats (F := F) m ρ 0 c).arrAt_in (1 : Fin 6) rfl _
theorem finalA_2 (c : Dev nD) : finalA m ρ c (2 : Fin 6) = (s₀ m ρ).mem (win0_2.arr.view.loc (c : Thread nD τ)) := (dats (F := F) m ρ 0 c).arrAt_in (2 : Fin 6) rfl _
theorem finalA_3 (c : Dev nD) : finalA m ρ c (3 : Fin 6) = (s₀ m ρ).mem (win0_3.arr.view.loc (c : Thread nD τ)) := (dats (F := F) m ρ 0 c).arrAt_in (3 : Fin 6) rfl _
theorem finalA_4 (c : Dev nD) : finalA m ρ c (4 : Fin 6) = (s₀ m ρ).mem (win0_4.arr.view.loc (c : Thread nD τ)) := (dats (F := F) m ρ 0 c).arrAt_in (4 : Fin 6) rfl _

end Cert.Attn

end
-- ==== Proof.Frames.lean ====
/-
# The frames

Each program runs, leaves its arguments unchanged and returns every semaphore to zero: the kernel at both readings of its
floats by one run of its text, the reference by the run of its host operations.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Attn

open Cert.KernelIdeal Cert.KernelIdeal.Gen

open Idealize.ShloMosaic Idealize.SL.Sem

variable {F : FTy → Type} [FloatOps F]

/-- A run that ends with every device's arrays as computed has left each device's arguments unchanged. -/
theorem args_kept (m : (ℓ : Loc nD τ sig) → Buf (Elt F) ℓ) (ρ : Dev nD → PrngReg) (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_0 m ρ c), (h c (1 : Fin 6)).trans (finalA_1 m ρ c), (h c (2 : Fin 6)).trans (finalA_2 m ρ c),
    (h c (3 : Fin 6)).trans (finalA_3 m ρ c), (h c (4 : Fin 6)).trans (finalA_4 m ρ c)⟩

/-- The idealized kernel's frame. -/
theorem frame_kernelIdeal : Cert.quiescent_KernelIdeal :=
  fun m ρ _ => (θ_run Cert.KernelIdeal.defs _ _).mono (fun r h => ⟨args_kept m ρ r h.1, h.2⟩) (run_main (F := Ideal) m ρ)

/-- The two programs have the same text. -/
theorem body_text : @Cert.Kernel.cc0_body Bits _ Cert.Kernel.Gen.facts = @Cert.KernelIdeal.cc0_body Bits _ Cert.KernelIdeal.Gen.facts := rfl
theorem bodies_text : Cert.Kernel.defs₀ (F := Bits) = Cert.KernelIdeal.defs₀ (F := Bits) := by
  unfold Cert.Kernel.defs₀ Cert.KernelIdeal.defs₀
  refine congrArg Defs.onTc ?_
  funext l a
  obtain ⟨_ | _, h⟩ := l
  · rfl
  · exact absurd h (by omega)
theorem defs_text : Cert.Kernel.defs (F := Bits) = Cert.KernelIdeal.defs (F := Bits) :=
  congrArg (Pipeline.defs Cert.KernelIdeal.pcfgs) bodies_text

/-- The kernel's frame: the same text, its floats read as bits. -/
theorem frame_kernel : Cert.quiescent_Kernel := by
  intro m ρ _
  rw [defs_text]
  exact (θ_run Cert.KernelIdeal.defs _ _).mono (fun r h => And.intro (args_kept (F := Bits) m ρ r h.1) h.2) (run_main (F := Bits) m ρ)

/-- The reference has no semaphore. -/
theorem reference_sem (s : SemLoc Cert.ReferenceIdeal.sig) : False := by
  rcases s with s | s <;> exact s.elim0

/-- The reference's frame. -/
theorem frame_reference : Cert.quiescent_ReferenceIdeal :=
  fun m ρ _ => (θ_run Cert.ReferenceIdeal.defs _ _).mono
    (fun r h => ⟨fun c => (h c).2, funext fun x => (reference_sem x.2).elim⟩) (Cert.ReferenceIdeal.Value.run (F := Ideal) m ρ)

end Cert.Attn

end
-- ==== Proof.Arrays.lean ====
/-
# The arrays before and after the run

Each window of the kernel is one block, the whole array: the staged inputs are the argument arrays, and the result array
ends holding the kernel's result.
-/
module

public import proofs.«01_k».proof.Proof.Run

@[expose] public section

noncomputable section

namespace Cert.Attn

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- A block at offset zero of an array, as large as the array, reads the array. -/
theorem read_all (b : Ref sig .tc) (f : b.ty.Contents (Elt F)) (off : Fin b.ty.shape.rank → Nat) (h0 : ∀ a, off a = 0)
    (inb : ∀ a, off a + b.ty.shape.size a ≤ b.ty.shape.size a) (h) :
    ((Memref.whole b).slice (Rect.unit off b.ty.shape.size inb) h).view.read (Elt F) f = f :=
  Memref.read_access_unit_zero (Elt F) b (funext h0) inb f

/-- The staged x is the argument. -/
theorem xA_eq (c : Dev nD) : xA m ρ c = m ((c : Thread nD τ).loc main_arg0) :=
  read_all main_arg0 _ _ (fun a => Nat.zero_mul _) _ _
/-- The staged Wq is the argument. -/
theorem wqA_eq (c : Dev nD) : wqA m ρ c = m ((c : Thread nD τ).loc main_arg1) :=
  read_all main_arg1 _ _ (fun a => Nat.zero_mul _) _ _
/-- The staged Wo is the argument. -/
theorem woA_eq (c : Dev nD) : woA m ρ c = m ((c : Thread nD τ).loc main_arg2) :=
  read_all main_arg2 _ _ (fun a => Nat.zero_mul _) _ _
/-- The staged keys are the argument. -/
theorem kA_eq (c : Dev nD) : kA m ρ c = m ((c : Thread nD τ).loc main_arg3) :=
  read_all main_arg3 _ _ (fun a => Nat.zero_mul _) _ _
/-- The staged values are the argument. -/
theorem vA_eq (c : Dev nD) : vA m ρ c = m ((c : Thread nD τ).loc main_arg4) :=
  read_all main_arg4 _ _ (fun a => Nat.zero_mul _) _ _

/-- The result array ends holding the kernel's result. -/
theorem finalA_5 (c : Dev nD) : finalA m ρ c (5 : Fin 6) = outA m ρ c := by
  refine (read_all main_v1 (finalA m ρ c (5 : Fin 6)) _ (fun a => Nat.zero_mul _) _ _).symm.trans
    (?_ : (win0_5.blk (0 : Fin 1)).view.read (Elt F) (finalA m ρ c (5 : Fin 6)) = outA m ρ c)
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

end Cert.Attn

end
-- ==== Proof.Pay.lean ====
/-
# The kernel's values

What the payloads of the kernel compute at an index, over the extended reals: the scaled queries, one device's sums of
weights and of weighted values, the normalisation and the last product.
-/
module

public import proofs.«01_k».proof.Proof.Common
public import Idealize.ShloMosaic.Lib.Pointwise

@[expose] public section

set_option maxRecDepth 16384

noncomputable section

namespace Cert.Attn

open Cert.KernelIdeal Cert.KernelIdeal.Gen

open Idealize.ShloMosaic

/-- A scaled query: a product of a row of x and a column of Wq, times the scale. -/
theorem pay2_at (x : S4x256x1024.Idx → EReal) (w : S1024x1024.Idx → EReal) (r l : Fin 1024) :
    k0_pay2 (F := Ideal) x w (ix2 r l) = (∑ k : Fin 1024, x (ix3 (dv4 r) (md256 r) k) * w (ix2 k l)) * Ideal.ofBits .f32 0x3DB504F3#32 := by
  pointwise [k0_pay2]
  exact rfl

/-- The weighted values of one device: the weights of a query row, over the device's keys, times a column of V. -/
theorem pay4_at (q : S256x128.Idx → EReal) (k v : S1x1024x1x128.Idx → EReal) (r : Fin 256) (x : Fin 128) :
    k0_pay4 (F := Ideal) q k v (ix2 r x)
      = ∑ j : Fin 1024, Ideal.exp (∑ d : Fin 128, q (ix2 r d) * k (ix4 0 j 0 d)) * v (ix4 0 j 0 x) := by
  pointwise [k0_pay4, k0_pay3]

/-- The weights of one device: their sum over the device's keys. -/
theorem pay5_at (q : S256x128.Idx → EReal) (k : S1x1024x1x128.Idx → EReal) (r : Fin 256) (x : Fin 1) :
    k0_pay5 (F := Ideal) q k (ix2 r x) = ∑ j : Fin 1024, Ideal.exp (∑ d : Fin 128, q (ix2 r d) * k (ix4 0 j 0 d)) := by
  pointwise [k0_pay5, k0_pay3]

/-- One step round the ring adds the neighbour's packet. -/
theorem pay124_at (a : S1024x1152.Idx → EReal) (f : S1024x1152.Idx → EReal) (i : S1024x1152.Idx) :
    k0_pay124 (F := Ideal) a (k0_pay123 (F := Ideal) f) i = a i + f i := by
  idx_vars i
  pointwise [k0_pay124, k0_pay123]

/-- The normalisation: a summed row of values over its summed weight. -/
theorem pay141_at (l : S256x1.Idx → EReal) (o : S256x128.Idx → EReal) (r : Fin 256) (x : Fin 128) :
    k0_pay141 (F := Ideal) l o (ix2 r x) = Ideal.div (o (ix2 r x)) (l (ix2 r 0)) := by
  pointwise [k0_pay141]

/-- The last product: a row of the attention and a column of Wo. -/
theorem pay1_at (a w : S1024x1024.Idx → EReal) (b : Fin 4) (r : Fin 256) (l : Fin 1024) :
    k0_pay1 (F := Ideal) a w (ix3 b r l) = ∑ k : Fin 1024, a (ix2 (rowOf b r) k) * w (ix2 k l) := by
  pointwise [k0_pay1]
  refine Finset.sum_congr rfl fun k _ => ?_
  congr 3
  simp only [rowOf, Fin.mk.injEq]
  omega

end Cert.Attn

end
-- ==== Proof.Ref.lean ====
/-
# The reference's value at an index

The reference's result, over the extended reals: the score of a query row and a key, the greatest score of a row, the
weighted mean of the values, and the last product.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.Attn.Ref

open Cert.ReferenceIdeal Cert.ReferenceIdeal.Gen

open Idealize.ShloMosaic
open Idealize.SL Idealize.SL.Sem

set_option backward.proofsInPublic true in
/-- The column of head `h`, lane `d`, among the 1024 columns of a product with Wq. -/
def hcol (h : Fin 8) (d : Fin 128) : Fin 1024 := ⟨h.val * 128 + d.val, by omega⟩
set_option backward.proofsInPublic true in
/-- The head of a column. -/
def headOf (k : Fin 1024) : Fin 8 := ⟨k.val / 128, by omega⟩
set_option backward.proofsInPublic true in
/-- The lane of a column in its head. -/
def laneOf (k : Fin 1024) : Fin 128 := ⟨k.val % 128, by omega⟩

section
variable (x : S4x256x1024.Idx → EReal) (wq wo : S1024x1024.Idx → EReal) (K V : S4x16384x8x128.Idx → EReal)

/-- The scores, in the reference's own operations. -/
def scores : FVec Ideal S4x8x256x16384 .f32 :=
  mulf (Host.dotGeneral dot_S4x256x8x128_S4x16384x8x128_S4x8x256x16384_3_3_1_1_02_02 none (shapeCast _ (Host.dotGeneral dot_S4x256x1024_S1024x1024_S4x256x1024_2_0_01_1_n_n none (extf (φ := .bf16) .f32 x bitsLt_bf16_f32) (extf (φ := .bf16) .f32 wq bitsLt_bf16_f32)) shapeCasts_S4x256x1024_S4x256x8x128) (extf (φ := .bf16) .f32 K bitsLt_bf16_f32)) (broadcastInDim S4x8x256x16384 ![] bcast_S_S4x8x256x16384 (constant S_ .f32 0x3DB504F3#32))

/-- A score: the product of a query row and a key, times the scale. -/
theorem scores_at (b : Fin 4) (h : Fin 8) (r : Fin 256) (J : Fin 16384) :
    scores x wq K (ix4 b h r J) = (∑ d : Fin 128, (∑ k : Fin 1024, x (ix3 b r k) * wq (ix2 k (hcol h d))) * K (ix4 b J h d)) * Ideal.ofBits .f32 0x3DB504F3#32 := by
  pointwise [scores]
  exact rfl

/-- The word 0xFF800000 is minus infinity. -/
theorem neg_inf : Ideal.ofBits .f32 0xFF800000#32 = ⊥ := by
  simp [Ideal.ofBits, Ideal.ieee]

/-- The greatest score of every query row. -/
def rowMax (s : FVec Ideal S4x8x256x16384 .f32) : FVec Ideal S4x8x256 .f32 :=
  Host.reduce FloatOps.maximumf s (constant S_ .f32 0xFF800000#32) reducesTo_S4x8x256x16384_S4x8x256_d3 h_S_

/-- The greatest score of a row is the greatest over the keys. -/
theorem rowMax_at (s : FVec Ideal S4x8x256x16384 .f32) (b : Fin 4) (h : Fin 8) (r : Fin 256) :
    rowMax s (ix3 b h r) = Finset.univ.fold max ⊥ fun J : Fin 16384 => s (ix4 b h r J) := by
  pointwise [rowMax]
  rw [neg_inf]

/-- The weights: exponentials of the scores less the greatest of their row. -/
def weights (s : FVec Ideal S4x8x256x16384 .f32) : FVec Ideal S4x8x256x16384 .f32 :=
  Host.exp (subf s (broadcastInDim S4x8x256x16384 ![0, 1, 2, 3] bcast_S4x8x256x1_S4x8x256x16384_0_1_2_3 (broadcastInDim S4x8x256x1 ![0, 1, 2] bcast_S4x8x256_S4x8x256x1_0_1_2 (rowMax s))))

/-- A weight at an index. -/
theorem weights_at (s : FVec Ideal S4x8x256x16384 .f32) (b : Fin 4) (h : Fin 8) (r : Fin 256) (J : Fin 16384) :
    weights s (ix4 b h r J) = Ideal.exp (s (ix4 b h r J) - rowMax s (ix3 b h r)) := by
  pointwise [weights]

/-- The weighted mean of the values, heads after rows. -/
def mean (w : FVec Ideal S4x8x256x16384 .f32) : FVec Ideal S4x256x8x128 .f32 :=
  Host.divf (transpose S4x256x8x128 [0, 3, 1, 2] (Host.dotGeneral dot_S4x16384x8x128_S4x8x256x16384_S4x8x128x256_1_3_3_2_02_01 none (extf (φ := .bf16) .f32 V bitsLt_bf16_f32) w) transposes_S4x8x128x256_S4x256x8x128_0_3_1_2)
    (broadcastInDim S4x256x8x128 ![0, 1, 2, 3] bcast_S4x256x8x1_S4x256x8x128_0_1_2_3 (transpose S4x256x8x1 [0, 2, 1, 3] (broadcastInDim S4x8x256x1 ![0, 1, 2] bcast_S4x8x256_S4x8x256x1_0_1_2 (Host.reduceAdd w (constant S_ .f32 0x00000000#32) reducesTo_S4x8x256x16384_S4x8x256_d3 h_S_)) transposes_S4x8x256x1_S4x256x8x1_0_2_1_3))

/-- The weighted mean at an index: the weighted values' sum over the weights' sum. -/
theorem mean_at (w : FVec Ideal S4x8x256x16384 .f32) (b : Fin 4) (h : Fin 8) (r : Fin 256) (d : Fin 128) :
    mean V w (ix4 b r h d) = Ideal.div (∑ J : Fin 16384, V (ix4 b J h d) * w (ix4 b h r J)) (∑ J : Fin 16384, w (ix4 b h r J)) := by
  pointwise [mean]

/-- The last product. -/
def result (a : FVec Ideal S4x256x8x128 .f32) : FVec Ideal S4x256x1024 .f32 :=
  Host.dotGeneral dot_S4x256x1024_S1024x1024_S4x256x1024_2_0_01_1_n_n none (shapeCast _ a shapeCasts_S4x256x8x128_S4x256x1024) (extf (φ := .bf16) .f32 wo bitsLt_bf16_f32)

/-- The last product at an index. -/
theorem result_at (a : FVec Ideal S4x256x8x128 .f32) (b : Fin 4) (r : Fin 256) (l : Fin 1024) :
    result wo a (ix3 b r l) = ∑ k : Fin 1024, a (ix4 b r (headOf k) (laneOf k)) * wo (ix2 k l) := by
  pointwise [result]
  exact rfl
end

/-- The reference's result. -/
def out (x : S4x256x1024.Idx → EReal) (wq wo : S1024x1024.Idx → EReal) (K V : S4x16384x8x128.Idx → EReal) : FVec Ideal S4x256x1024 .f32 :=
  result wo (mean V (weights (scores x wq K)))

/-- The reference's run, its result named. -/
theorem run_out (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD).tc : Thread nD τ).loc main_v23)
        = out (m (((0 : Dev nD).tc : Thread nD τ).loc main_arg0)) (m (((0 : Dev nD).tc : Thread nD τ).loc main_arg1))
            (m (((0 : Dev nD).tc : Thread nD τ).loc main_arg2)) (m (((0 : Dev nD).tc : Thread nD τ).loc main_arg3))
            (m (((0 : Dev nD).tc : Thread nD τ).loc main_arg4))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4) :=
  (θ_run defs _ _).mono (fun _ h => h 0) (Cert.ReferenceIdeal.Value.run (F := Ideal) m ρ)

end Cert.Attn.Ref

end
-- ==== Proof.Softmax.lean ====
/-
# Softmax over the extended reals

A softmax whose weights are exponentials of real scores is the same whether or not the scores are first lowered by a
real number; a sum over all keys is the sum over the devices of the sums over each device's keys; and a scale taken
before a product of real vectors may be taken after it.
-/
module

public import Idealize.ShloMosaic.PureOps.Ideal
public import Idealize.ShloMosaic.PureOps.Ideal.Laws
public import Mathlib.Algebra.BigOperators.Fin
public import Mathlib.Logic.Equiv.Fin.Basic
public import Mathlib.Data.Finset.Fold

@[expose] public section

noncomputable section

namespace Cert.Attn

open Idealize.ShloMosaic

/-- An extended real that is a real number. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type} (s : Finset ι) {f : ι → EReal} (h : ∀ i, IsReal (f i)) : IsReal (∑ i ∈ s, f i) := by
  choose g hg using h
  refine ⟨∑ i ∈ s, g i, ?_⟩
  rw [coe_sum]
  exact Finset.sum_congr rfl fun i _ => hg i

/-- An extended real whose magnitude is below infinity is a real number. -/
theorem isReal_of_abs {x : EReal} (h : max x (-x) < ⊤) : IsReal x := by
  rw [max_lt_iff] at h
  have hb : x ≠ ⊥ := by rintro rfl; exact absurd h.2 (by simp)
  exact ⟨x.toReal, (EReal.coe_toReal h.1.ne hb).symm⟩

/-- The greatest of finitely many, at least one, real numbers is real. -/
theorem IsReal.foldMax {ι : Type} [Fintype ι] [Nonempty ι] {f : ι → EReal} (h : ∀ i, IsReal (f i)) :
    IsReal (Finset.univ.fold max ⊥ f) := by
  choose g hg using h
  have h1 : Finset.univ.fold max ⊥ f < ⊤ :=
    (Finset.fold_max_lt _).2 ⟨bot_lt_top, fun i _ => by rw [hg i]; exact EReal.coe_lt_top _⟩
  have h2 : ⊥ < Finset.univ.fold max ⊥ f :=
    (Finset.lt_fold_max _).2 (Or.inr ⟨Classical.arbitrary ι, Finset.mem_univ _, by rw [hg]; exact EReal.bot_lt_coe _⟩)
  exact ⟨_, (EReal.coe_toReal h1.ne h2.ne').symm⟩

/-- A real factor that is not negative goes into a finite sum of extended reals. -/
theorem coe_mul_sum {ι : Type} (s : Finset ι) (e : ℝ) (he : 0 ≤ e) (f : ι → EReal) :
    (e : EReal) * ∑ i ∈ s, f i = ∑ i ∈ s, (e : EReal) * f i := by
  classical
  induction s using Finset.induction_on with
  | empty => simp
  | insert a s ha ih =>
    rw [Finset.sum_insert ha, Finset.sum_insert ha,
      EReal.left_distrib_of_nonneg_of_ne_top (by exact_mod_cast he) (EReal.coe_ne_top e), ih]

/-- The weighted mean under exponential weights of real scores does not change when a real number is taken from every
    score; the values may be infinite. -/
theorem softmax_shift {ι : Type} [Fintype ι] [Nonempty ι] (s v : ι → EReal) (M : EReal) (hs : ∀ j, IsReal (s j)) (hM : IsReal M) :
    Ideal.div (∑ j, Ideal.exp (s j) * v j) (∑ j, Ideal.exp (s j))
      = Ideal.div (∑ j, Ideal.exp (s j - M) * v j) (∑ j, Ideal.exp (s j - M)) := by
  choose g hg using hs
  obtain ⟨μ, rfl⟩ := hM
  have hw : ∀ j, Ideal.exp (s j - (μ : EReal)) = ((Real.exp (g j - μ) : ℝ) : EReal) := fun j => by
    rw [hg j, ← EReal.coe_sub, Ideal.exp_coe]
  have hu : ∀ j, Ideal.exp (s j) = ((Real.exp μ * Real.exp (g j - μ) : ℝ) : EReal) := fun j => by
    rw [hg j, Ideal.exp_coe, ← Real.exp_add]; congr 2; ring
  simp only [hw, hu]
  rw [← coe_sum, ← coe_sum, ← Finset.mul_sum]
  have hB : 0 < ∑ j, Real.exp (g j - μ) := Finset.sum_pos (fun j _ => Real.exp_pos _) Finset.univ_nonempty
  have hE : 0 < Real.exp μ := Real.exp_pos μ
  rw [Ideal.div_coe (mul_pos hE hB).ne', Ideal.div_coe hB.ne']
  simp only [EReal.coe_mul (Real.exp μ), mul_assoc]
  rw [← coe_mul_sum _ _ hE.le, mul_comm ((Real.exp μ : ℝ) : EReal), mul_assoc, ← EReal.coe_mul]
  congr 2
  field_simp

/-- A real scale on the left vector of a product of real vectors goes outside. -/
theorem scale_out {ι : Type} [Fintype ι] (q k : ι → EReal) (S : EReal) (hq : ∀ d, IsReal (q d)) (hk : ∀ d, IsReal (k d)) (hS : IsReal S) :
    (∑ d, (q d * S) * k d) = (∑ d, q d * k d) * S := by
  choose a ha using hq
  choose b hb using hk
  obtain ⟨σ, rfl⟩ := hS
  simp only [ha, hb, ← EReal.coe_mul, ← coe_sum]
  congr 1
  rw [Finset.sum_mul]
  exact Finset.sum_congr rfl fun d _ => by ring

/-- The key at place `j` of device `d`'s keys, among all keys. -/
def keyOf (d : Fin 16) (j : Fin 1024) : Fin 16384 := ⟨1024 * d.val + j.val, by omega⟩

/-- A sum over all keys is the sum over the devices of the sums over their own keys. -/
theorem sum_keys {M : Type} [AddCommMonoid M] (f : Fin 16384 → M) : ∑ J, f J = ∑ d, ∑ j, f (keyOf d j) := by
  rw [← Fintype.sum_prod_type' (f := fun (d : Fin 16) (j : Fin 1024) => f (keyOf d j))]
  refine (Fintype.sum_equiv (finProdFinEquiv (m := 16) (n := 1024)) _ _ fun p => ?_).symm
  refine congrArg f (Fin.ext ?_)
  show 1024 * p.1.val + p.2.val = p.2.val + 1024 * p.1.val
  omega

end Cert.Attn

end
-- ==== Proof.Value.lean ====
/-
# The kernel's result is the reference's

Over the extended reals, with x, Wq and K finite. A device's accumulator after the ring is the sum over all devices of
their own sums; these are sums over all keys; and their quotient is the softmax mean, whose weights the reference takes
less the greatest score of the row.
-/
module

public import proofs.«01_k».proof.Proof.Arrays
public import proofs.«01_k».proof.Proof.Pay
public import proofs.«01_k».proof.Proof.Ref
public import proofs.«01_k».proof.Proof.Softmax

@[expose] public section

noncomputable section

namespace Cert.Attn

open Cert.KernelIdeal Cert.KernelIdeal.Gen

open Idealize.ShloMosaic
open Idealize.ShloMosaic.TcCoe

/-- The scale of the scores. -/
abbrev scale : EReal := Ideal.ofBits .f32 0x3DB504F3#32

/-- The scale is a real number. -/
theorem scale_real : IsReal scale := by
  unfold IsReal scale
  simp [Ideal.ofBits, Ideal.ieee, -EReal.coe_mul]

/-! ## Rows and columns taken apart -/

/-- The batch of a row. -/
theorem dv4_rowOf (b : Fin 4) (r : Fin 256) : dv4 (rowOf b r) = b := Fin.ext (by simp only [dv4, rowOf]; omega)
/-- The row within its batch. -/
theorem md256_rowOf (b : Fin 4) (r : Fin 256) : md256 (rowOf b r) = r := Fin.ext (by simp only [md256, rowOf]; omega)
/-- The head of an accumulator's column. -/
theorem dv8_colAcc (h : Fin 8) (d : Fin 128) : dv8 (colAcc h d) = h := Fin.ext (by simp only [dv8, colAcc]; omega)
/-- The lane of an accumulator's column. -/
theorem md128_colAcc (h : Fin 8) (d : Fin 128) : md128 (colAcc h d) = d := Fin.ext (by simp only [md128, colAcc]; omega)
/-- The head of a column of weights. -/
theorem hd8_lcolAcc (h : Fin 8) : hd8 (lcolAcc h) = h := Fin.ext (by simp only [hd8, lcolAcc]; omega)
/-- The two ways of naming a column of the queries agree. -/
theorem colOf_eq (h : Fin 8) (d : Fin 128) : colOf h d = Ref.hcol h d := Fin.ext (by simp only [colOf, Ref.hcol]; omega)

variable (m : (ℓ : Loc nD τ sig) → Buf (Elt Ideal) ℓ) (ρ : Dev nD → PrngReg)

/-! ## The total over the ring -/

/-- The accumulator after `n` hops is the sum of the own sums of the device and the `n` before it. -/
theorem accAt_sum (c : Dev nD) (i : S1024x1152.Idx) (n : ℕ) :
    accAt (F := Ideal) m ρ c n i = ∑ k ∈ Finset.range (n + 1), (accOwn (F := Ideal) m ρ (back k c) i : EReal) := by
  induction n with
  | zero => simp only [Nat.zero_add, Finset.range_one, Finset.sum_singleton]; rfl
  | succ n ih =>
    rw [Finset.sum_range_succ, ← ih]
    exact pay124_at _ _ i

/-- Going back over the ring meets every device once. -/
theorem back_bijective (c : Dev nD) : Function.Bijective fun k : Fin 16 => (back k.val c : Fin 16) := by
  refine Finite.injective_iff_bijective.mp fun k l h => ?_
  have h1 : (back k.val c).val = (back l.val c).val := congrArg Fin.val h
  rw [back_val _ _ (by omega), back_val _ _ (by omega)] at h1
  have hc : c.val < 16 := c.isLt
  exact Fin.ext (by omega)

/-- The total is the sum over all devices of their own sums. -/
theorem tot_sum (c : Dev nD) (i : S1024x1152.Idx) :
    tot (F := Ideal) m ρ c i = ∑ d : Fin 16, (accOwn (F := Ideal) m ρ d i : EReal) := by
  unfold tot
  rw [accAt_sum, ← Fin.sum_univ_eq_sum_range (fun k => (accOwn (F := Ideal) m ρ (back k c) i : EReal)) 16]
  exact (back_bijective c).sum_comp (fun d : Fin 16 => (accOwn (F := Ideal) m ρ d i : EReal))

section
variable (x : S4x256x1024.Idx → EReal) (wq wo : S1024x1024.Idx → EReal) (K V : Cert.ReferenceIdeal.S4x16384x8x128.Idx → EReal)

/-- The score of a query row and a key as the reference takes it. -/
abbrev score (b : Fin 4) (h : Fin 8) (r : Fin 256) (J : Fin 16384) : EReal := Ref.scores x wq K (ix4 b h r J)

variable (hx : ∀ c, xA (F := Ideal) m ρ c = x) (hwq : ∀ c, wqA (F := Ideal) m ρ c = wq) (hwo : ∀ c, woA (F := Ideal) m ρ c = wo)
variable (hK : ∀ (c : Fin 16) b j h d, kA (F := Ideal) m ρ c (ix4 b j h d) = K (ix4 b (keyOf c j) h d))
variable (hV : ∀ (c : Fin 16) b j h d, vA (F := Ideal) m ρ c (ix4 b j h d) = V (ix4 b (keyOf c j) h d))
variable (fx : ∀ i, IsReal (x i)) (fwq : ∀ i, IsReal (wq i)) (fK : ∀ i, IsReal (K i))

include fx fwq in
/-- A query, before the scale, is real. -/
theorem query_real (b : Fin 4) (r : Fin 256) (l : Fin 1024) : IsReal (∑ k : Fin 1024, x (ix3 b r k) * wq (ix2 k l)) :=
  IsReal.sum _ fun k => (fx _).mul (fwq _)

include fx fwq fK in
/-- Every score is real. -/
theorem score_real (b : Fin 4) (h : Fin 8) (r : Fin 256) (J : Fin 16384) : IsReal (score x wq K b h r J) := by
  unfold score
  rw [Ref.scores_at]
  exact (IsReal.sum _ fun d => (query_real x wq fx fwq b r _).mul (fK _)).mul scale_real

include hx hwq hK fx fwq fK in
/-- The kernel's score, its query scaled before the product, is the reference's. -/
theorem dot_score (c : Fin 16) (b : Fin 4) (h : Fin 8) (r : Fin 256) (j : Fin 1024) :
    (∑ d : Fin 128, (qB (F := Ideal) m ρ c b h (ix2 r d) : EReal) * kB (F := Ideal) m ρ c b h (ix4 0 j 0 d)) = score x wq K b h r (keyOf c j) := by
  unfold score
  rw [Ref.scores_at, ← scale_out _ _ _ (fun d => query_real x wq fx fwq b r _) (fun d => fK _) scale_real]
  refine Finset.sum_congr rfl fun d _ => ?_
  have e1 : (qB (F := Ideal) m ρ c b h (ix2 r d) : EReal)
      = (∑ k : Fin 1024, x (ix3 b r k) * wq (ix2 k (Ref.hcol h d))) * scale := by
    refine (pay2_at (xA (F := Ideal) m ρ c) (wqA (F := Ideal) m ρ c) (rowOf b r) (colOf h d)).trans ?_
    rw [hx, hwq, dv4_rowOf, md256_rowOf, colOf_eq]
  have e2 : (kB (F := Ideal) m ρ c b h (ix4 0 j 0 d) : EReal) = K (ix4 b (keyOf c j) h d) := hK c b j h d
  rw [e1, e2]

include hx hwq hK hV fx fwq fK in
/-- A device's own weighted values, in the accumulator. -/
theorem accOwn_o (c : Fin 16) (b : Fin 4) (h : Fin 8) (r : Fin 256) (d : Fin 128) :
    (accOwn (F := Ideal) m ρ c (ix2 (rowOf b r) (colAcc h d)) : EReal)
      = ∑ j : Fin 1024, Ideal.exp (score x wq K b h r (keyOf c j)) * V (ix4 b (keyOf c j) h d) := by
  have e : accOwn (F := Ideal) m ρ c (ix2 (rowOf b r) (colAcc h d))
      = oB (F := Ideal) m ρ c (dv4 (rowOf b r)) (dv8 (colAcc h d)) (ix2 (md256 (rowOf b r)) (md128 (colAcc h d))) :=
    if_pos (show (colAcc h d).val < 1024 by simp only [colAcc]; omega)
  rw [e, dv4_rowOf, md256_rowOf, dv8_colAcc, md128_colAcc]
  refine (pay4_at (qB (F := Ideal) m ρ c b h) (kB (F := Ideal) m ρ c b h) (vB (F := Ideal) m ρ c b h) r d).trans ?_
  refine Finset.sum_congr rfl fun j _ => ?_
  rw [dot_score m ρ x wq K hx hwq hK fx fwq fK c b h r j]
  exact congrArg _ (hV c b j h d)

include hx hwq hK fx fwq fK in
/-- A device's own sum of weights, in the accumulator. -/
theorem accOwn_l (c : Fin 16) (b : Fin 4) (h : Fin 8) (r : Fin 256) :
    (accOwn (F := Ideal) m ρ c (ix2 (rowOf b r) (lcolAcc h)) : EReal) = ∑ j : Fin 1024, Ideal.exp (score x wq K b h r (keyOf c j)) := by
  have e : accOwn (F := Ideal) m ρ c (ix2 (rowOf b r) (lcolAcc h))
      = lB (F := Ideal) m ρ c (dv4 (rowOf b r)) (hd8 (lcolAcc h)) (ix2 (md256 (rowOf b r)) 0) :=
    (if_neg (show ¬ (lcolAcc h).val < 1024 by simp only [lcolAcc]; omega)).trans
      (if_pos (show (lcolAcc h).val < 1032 by simp only [lcolAcc]; omega))
  rw [e, dv4_rowOf, md256_rowOf, hd8_lcolAcc]
  refine (pay5_at (qB (F := Ideal) m ρ c b h) (kB (F := Ideal) m ρ c b h) r 0).trans ?_
  exact Finset.sum_congr rfl fun j _ => by rw [dot_score m ρ x wq K hx hwq hK fx fwq fK c b h r j]

include hx hwq hK hV fx fwq fK in
/-- The normalised attention of the kernel is the reference's mean. -/
theorem attn_eq (c : Fin 16) (b : Fin 4) (r : Fin 256) (l : Fin 1024) :
    (attnA (F := Ideal) m ρ c (ix2 (rowOf b r) l) : EReal)
      = Ref.mean V (Ref.weights (Ref.scores x wq K)) (ix4 b r (Ref.headOf l) (Ref.laneOf l)) := by
  have e : attnA (F := Ideal) m ρ c (ix2 (rowOf b r) l)
      = k0_pay141 (F := Ideal) (totL (F := Ideal) m ρ c (dv4 (rowOf b r)) (dvh l)) (totO (F := Ideal) m ρ c (dv4 (rowOf b r)) (dvh l))
          (ix2 (md256 (rowOf b r)) (mdh l)) := rfl
  rw [e, dv4_rowOf, md256_rowOf, Ref.mean_at]
  refine (pay141_at _ _ r (mdh l)).trans ?_
  have eh : dvh l = Ref.headOf l := rfl
  have el : mdh l = Ref.laneOf l := rfl
  rw [eh, el]
  generalize Ref.headOf l = h
  generalize Ref.laneOf l = d
  have eO : (totO (F := Ideal) m ρ c b h (ix2 r d) : EReal) = ∑ J, Ideal.exp (score x wq K b h r J) * V (ix4 b J h d) := by
    refine (tot_sum m ρ c (ix2 (rowOf b r) (colAcc h d))).trans ?_
    rw [sum_keys]
    exact Finset.sum_congr rfl fun k _ => accOwn_o m ρ x wq K V hx hwq hK hV fx fwq fK k b h r d
  have eL : (totL (F := Ideal) m ρ c b h (ix2 r 0) : EReal) = ∑ J, Ideal.exp (score x wq K b h r J) := by
    refine (tot_sum m ρ c (ix2 (rowOf b r) (lcolAcc h))).trans ?_
    rw [sum_keys]
    exact Finset.sum_congr rfl fun k _ => accOwn_l m ρ x wq K hx hwq hK fx fwq fK k b h r
  have hM : IsReal (Ref.rowMax (Ref.scores x wq K) (ix3 b h r)) := by
    rw [Ref.rowMax_at]
    exact IsReal.foldMax fun J => score_real x wq K fx fwq fK b h r J
  rw [eO, eL, softmax_shift (fun J => score x wq K b h r J) (fun J => V (ix4 b J h d)) _ (fun J => score_real x wq K fx fwq fK b h r J) hM]
  refine congrArg₂ Ideal.div ?_ ?_
  · exact Finset.sum_congr rfl fun J _ => by rw [Ref.weights_at, mul_comm]
  · exact Finset.sum_congr rfl fun J _ => by rw [Ref.weights_at]

include hx hwq hwo hK hV fx fwq fK in
/-- Every device's result is the reference's. -/
theorem out_eq (c : Fin 16) : outA (F := Ideal) m ρ c = Ref.out x wq wo K V := by
  funext i
  have hi : i = ix3 (i 0 : Fin 4) (i 1 : Fin 256) (i 2 : Fin 1024) := by
    funext a; fin_cases a <;> rfl
  rw [hi]
  refine (pay1_at (attnA (F := Ideal) m ρ c) (woA (F := Ideal) m ρ c) (i 0) (i 1) (i 2)).trans ?_
  refine Eq.trans ?_ (Ref.result_at wo (Ref.mean V (Ref.weights (Ref.scores x wq K))) (i 0) (i 1) (i 2)).symm
  refine Finset.sum_congr rfl fun k _ => ?_
  rw [attn_eq m ρ x wq K V hx hwq hK hV fx fwq fK c (i 0) (i 1) k, hwo]

end

end Cert.Attn

end
-- ==== Proof.Algebraic.lean ====
/-
# The value claim

The precondition says that x, Wq and a device's block of K are finite; with the blocks of all devices, K is. The kernel's
run and the reference's run then end at one value.
-/
module

public import proofs.«01_k».proof.Defs
public import proofs.«01_k».proof.Proof.Frames
public import proofs.«01_k».proof.Proof.Value

@[expose] public section

noncomputable section

namespace Cert.Attn

open Idealize.ShloMosaic Idealize.SL.Sem

/-- The side conditions of the precondition, over a device's blocks. -/
theorem pre_facts_kernel : Cert.Pre_finite_inputs_KernelIdeal.Facts := ⟨by decide, by decide, by decide⟩
/-- The same, over the whole arrays. -/
theorem pre_facts_reference : Cert.Pre_finite_inputs_ReferenceIdeal.Facts := ⟨by decide, by decide, by decide⟩

/-- The word 0x7F80 is infinity. -/
theorem pos_inf : Ideal.ofBits .bf16 0x7F80#16 = ⊤ := by
  simp [Ideal.ofBits, Ideal.ieee]

/-- A comparison of an array's magnitudes with infinity that holds everywhere says that its elements are real. -/
theorem real_of_pre {s : Shape} (v : FVec Ideal s .bf16) (hb : (⟨0, ![]⟩ : Shape).BroadcastsInDim s (![] : Fin 0 → Fin s.rank))
    (h : cmpf .olt (Host.absf v) (broadcastInDim s ![] hb (constant (⟨0, ![]⟩ : Shape) .bf16 0x7F80#16)) = fun _ => 1#1) (i : s.Idx) :
    IsReal (v i : EReal) := by
  have h1 : Ideal.cmp .olt (max (v i : EReal) (-(v i : EReal))) (Ideal.ofBits .bf16 0x7F80#16) = 1#1 := congrFun h i
  rw [pos_inf] at h1
  refine isReal_of_abs ?_
  by_contra hn
  simp [Ideal.cmp, hn] at h1

/-- A key of the whole array is a key of the block of one device. -/
theorem key_split (J : Fin 16384) : ∃ (c : Fin 16) (j : Fin 1024), J = keyOf c j :=
  ⟨⟨J.val / 1024, by omega⟩, ⟨J.val % 1024, by omega⟩, Fin.ext (by simp only [keyOf]; omega)⟩

/-- An element of a device's block of an array cut along its keys is an element of the array. -/
theorem block_key (K : Cert.ReferenceIdeal.S4x16384x8x128.Idx → EReal) (c : Fin 16) (b : Fin 4) (j : Fin 1024) (h : Fin 8) (d : Fin 128) :
    Layout.block ⟨4, ![4, 1024, 8, 128]⟩ ⟨4, ![4, 16384, 8, 128]⟩ 1 16 c K (by decide) (ix4 b j h d) = K (ix4 b (keyOf c j) h d) := by
  rw [Layout.block_apply]
  refine congrArg K (funext fun a => Fin.ext ?_)
  rw [Layout.Tiles.idx_val]
  fin_cases a
  · rfl
  · show c.val * 1024 + j.val = 1024 * c.val + j.val
    omega
  · rfl
  · rfl

/-- The value claim: with x, Wq and K finite, every device's result is the reference's result of the whole arrays. -/
theorem values : Cert.algebraic_KernelIdeal_ReferenceIdeal_pre_finite_inputs_KernelIdeal (hPre_finite_inputs_KernelIdeal := pre_facts_kernel) := by
  intro m g m' g' hpre hagree
  refine ⟨_, ?_, Ref.run_out m' g'⟩
  have fx : ∀ i, IsReal (m' (((0 : Dev Cert.ReferenceIdeal.nD).tc : Thread Cert.ReferenceIdeal.nD Cert.ReferenceIdeal.τ).loc Cert.ReferenceIdeal.main_arg0) i : EReal) := fun i => by
    rw [← (hagree 0).1]; exact real_of_pre _ _ (hpre 0).1 i
  have fwq : ∀ i, IsReal (m' (((0 : Dev Cert.ReferenceIdeal.nD).tc : Thread Cert.ReferenceIdeal.nD Cert.ReferenceIdeal.τ).loc Cert.ReferenceIdeal.main_arg1) i : EReal) := fun i => by
    rw [← (hagree 0).2.1]; exact real_of_pre _ _ (hpre 0).2.1 i
  have hK : ∀ (c : Fin 16) (b : Fin 4) (j : Fin 1024) (h : Fin 8) (d : Fin 128), (m ((Dev.tc (nD := Cert.KernelIdeal.nD) c : Thread Cert.KernelIdeal.nD Cert.KernelIdeal.τ).loc Cert.KernelIdeal.main_arg3) (ix4 b j h d) : EReal)
      = m' (((0 : Dev Cert.ReferenceIdeal.nD).tc : Thread Cert.ReferenceIdeal.nD Cert.ReferenceIdeal.τ).loc Cert.ReferenceIdeal.main_arg3) (ix4 b (keyOf c j) h d) := fun c b j h d =>
    (congrFun (hagree c).2.2.2.1 (ix4 b j h d)).trans (block_key _ c b j h d)
  have hV : ∀ (c : Fin 16) (b : Fin 4) (j : Fin 1024) (h : Fin 8) (d : Fin 128), (m ((Dev.tc (nD := Cert.KernelIdeal.nD) c : Thread Cert.KernelIdeal.nD Cert.KernelIdeal.τ).loc Cert.KernelIdeal.main_arg4) (ix4 b j h d) : EReal)
      = m' (((0 : Dev Cert.ReferenceIdeal.nD).tc : Thread Cert.ReferenceIdeal.nD Cert.ReferenceIdeal.τ).loc Cert.ReferenceIdeal.main_arg4) (ix4 b (keyOf c j) h d) := fun c b j h d =>
    (congrFun (hagree c).2.2.2.2 (ix4 b j h d)).trans (block_key _ c b j h d)
  have fK : ∀ i, IsReal (m' (((0 : Dev Cert.ReferenceIdeal.nD).tc : Thread Cert.ReferenceIdeal.nD Cert.ReferenceIdeal.τ).loc Cert.ReferenceIdeal.main_arg3) i : EReal) := fun i => by
    obtain ⟨c, j, hJ⟩ := key_split (i 1)
    have hi : i = ix4 (i 0 : Fin 4) (keyOf c j) (i 2 : Fin 8) (i 3 : Fin 128) := by
      funext a
      fin_cases a
      · rfl
      · exact hJ
      · rfl
      · rfl
    obtain ⟨y, hy⟩ := real_of_pre _ _ (hpre c).2.2 (ix4 (i 0 : Fin 4) j (i 2 : Fin 8) (i 3 : Fin 128))
    exact ⟨y, ((congrArg _ hi).trans (hK c (i 0) j (i 2) (i 3)).symm).trans hy⟩
  refine (θ_run Cert.KernelIdeal.defs _ _).mono (fun r h c => ⟨(h.1 c (5 : Fin 6)).trans ((finalA_5 m g c).trans ?_), args_kept m g r h.1 c⟩) (run_main (F := Ideal) m g)
  exact out_eq m g _ _ _ _ _ (fun c => (xA_eq m g c).trans (hagree c).1) (fun c => (wqA_eq m g c).trans (hagree c).2.1)
    (fun c => (woA_eq m g c).trans (hagree c).2.2.1) (fun c b j h d => (congrFun (kA_eq m g c) _).trans (hK c b j h d))
    (fun c b j h d => (congrFun (vA_eq m g c) _).trans (hV c b j h d)) fx fwq fK c

end Cert.Attn

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Attn.pre_facts_kernel, Cert.Attn.pre_facts_reference,
    Cert.Attn.frame_kernel, Cert.Attn.frame_kernelIdeal, fun m g _ => Cert.Attn.frame_kernelIdeal m g trivial,
    Cert.Attn.frame_reference, fun m g _ => Cert.Attn.frame_reference m g trivial, trivial, Cert.Attn.values⟩

end Cert.Proof

end
